-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v30_0)) (v1 : (c : Dev Cert.Kernel3Ideal.nD) → Buf (Elt Ideal) ((c.tc : Thread Cert.Kernel3Ideal.nD Cert.Kernel3Ideal.τ).loc Cert.Kernel3Ideal.main_v30_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v30_0) = v0 c
          ∧ r.2.mem ((c.tc : Thread Cert.Kernel3Ideal.nD Cert.Kernel3Ideal.τ).loc Cert.Kernel3Ideal.main_v30_3) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_v51) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v46_0)) (v1 : (c : Dev Cert.Kernel4Ideal.nD) → Buf (Elt Ideal) ((c.tc : Thread Cert.Kernel4Ideal.nD Cert.Kernel4Ideal.τ).loc Cert.Kernel4Ideal.main_v46_1)) (v2 : (c : Dev Cert.Kernel4Ideal.nD) → Buf (Elt Ideal) ((c.tc : Thread Cert.Kernel4Ideal.nD Cert.Kernel4Ideal.τ).loc Cert.Kernel4Ideal.main_v46_2)) (v3 : (c : Dev Cert.Kernel4Ideal.nD) → Buf (Elt Ideal) ((c.tc : Thread Cert.Kernel4Ideal.nD Cert.Kernel4Ideal.τ).loc Cert.Kernel4Ideal.main_v46_3)) (v4 : (c : Dev Cert.Kernel4Ideal.nD) → Buf (Elt Ideal) ((c.tc : Thread Cert.Kernel4Ideal.nD Cert.Kernel4Ideal.τ).loc Cert.Kernel4Ideal.main_v46_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v46_0) = v0 c
          ∧ r.2.mem ((c.tc : Thread Cert.Kernel4Ideal.nD Cert.Kernel4Ideal.τ).loc Cert.Kernel4Ideal.main_v46_1) = v1 c
          ∧ r.2.mem ((c.tc : Thread Cert.Kernel4Ideal.nD Cert.Kernel4Ideal.τ).loc Cert.Kernel4Ideal.main_v46_2) = v2 c
          ∧ r.2.mem ((c.tc : Thread Cert.Kernel4Ideal.nD Cert.Kernel4Ideal.τ).loc Cert.Kernel4Ideal.main_v46_3) = v3 c
          ∧ r.2.mem ((c.tc : Thread Cert.Kernel4Ideal.nD Cert.Kernel4Ideal.τ).loc Cert.Kernel4Ideal.main_v46_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v19) = v2 c
          ∧ r.2.mem ((c.tc : Thread Cert.Reference4Ideal.nD Cert.Reference4Ideal.τ).loc Cert.Reference4Ideal.main_v23) = v3 c
          ∧ r.2.mem ((c.tc : Thread Cert.Reference4Ideal.nD Cert.Reference4Ideal.τ).loc Cert.Reference4Ideal.main_v27) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S16x512x768 : Shape := ⟨3, ![16, 512, 768]⟩
abbrev S16x512x256 : Shape := ⟨3, ![16, 512, 256]⟩
abbrev S8192x768 : Shape := ⟨2, ![8192, 768]⟩
abbrev S8192x256 : Shape := ⟨2, ![8192, 256]⟩
abbrev S1024x256 : Shape := ⟨2, ![1024, 256]⟩
abbrev S128x256 : Shape := ⟨2, ![128, 256]⟩
abbrev S512x256 : Shape := ⟨2, ![512, 256]⟩
abbrev S512x128 : Shape := ⟨2, ![512, 128]⟩
abbrev S128x128 : Shape := ⟨2, ![128, 128]⟩
abbrev S256x256 : Shape := ⟨2, ![256, 256]⟩
abbrev S128 : Shape := ⟨1, ![128]⟩
abbrev S128x1 : Shape := ⟨2, ![128, 1]⟩
abbrev S512x1 : Shape := ⟨2, ![512, 1]⟩

abbrev nBuf : Space → Nat
  | .hbm => 11
  | .vmem => 32
  | .smem => 0
  | _ => 0

abbrev bufTy : (tb : Table) → Fin (tcTables nBuf tb) → BufTy
  | .hbm, ⟨0, _⟩ => ⟨S16x512x768, .bf16⟩
  | .hbm, ⟨1, _⟩ => ⟨S16x512x256, .bf16⟩
  | .hbm, ⟨2, _⟩ => ⟨S16x512x256, .f32⟩
  | .hbm, ⟨3, _⟩ => ⟨S16x512x256, .f32⟩
  | .hbm, ⟨4, _⟩ => ⟨S8192x768, .bf16⟩
  | .hbm, ⟨5, _⟩ => ⟨S8192x256, .bf16⟩
  | .hbm, ⟨6, _⟩ => ⟨S8192x256, .f32⟩
  | .hbm, ⟨7, _⟩ => ⟨S8192x256, .f32⟩
  | .hbm, ⟨8, _⟩ => ⟨S8192x256, .bf16⟩
  | .hbm, ⟨9, _⟩ => ⟨S8192x256, .bf16⟩
  | .hbm, ⟨10, _⟩ => ⟨S8192x256, .bf16⟩
  | .local _ .vmem, ⟨0, _⟩ => ⟨S1024x256, .bf16⟩
  | .local _ .vmem, ⟨1, _⟩ => ⟨S1024x256, .bf16⟩
  | .local _ .vmem, ⟨2, _⟩ => ⟨S128x256, .bf16⟩
  | .local _ .vmem, ⟨3, _⟩ => ⟨S128x256, .bf16⟩
  | .local _ .vmem, ⟨4, _⟩ => ⟨S1024x256, .bf16⟩
  | .local _ .vmem, ⟨5, _⟩ => ⟨S1024x256, .bf16⟩
  | .local _ .vmem, ⟨6, _⟩ => ⟨S128x256, .bf16⟩
  | .local _ .vmem, ⟨7, _⟩ => ⟨S128x256, .bf16⟩
  | .local _ .vmem, ⟨8, _⟩ => ⟨S1024x256, .bf16⟩
  | .local _ .vmem, ⟨9, _⟩ => ⟨S1024x256, .bf16⟩
  | .local _ .vmem, ⟨10, _⟩ => ⟨S128x256, .bf16⟩
  | .local _ .vmem, ⟨11, _⟩ => ⟨S128x256, .bf16⟩
  | .local _ .vmem, ⟨12, _⟩ => ⟨S1024x256, .bf16⟩
  | .local _ .vmem, ⟨13, _⟩ => ⟨S1024x256, .bf16⟩
  | .local _ .vmem, ⟨14, _⟩ => ⟨S128x256, .bf16⟩
  | .local _ .vmem, ⟨15, _⟩ => ⟨S128x256, .bf16⟩
  | .local _ .vmem, ⟨16, _⟩ => ⟨S1024x256, .f32⟩
  | .local _ .vmem, ⟨17, _⟩ => ⟨S1024x256, .f32⟩
  | .local _ .vmem, ⟨18, _⟩ => ⟨S128x256, .f32⟩
  | .local _ .vmem, ⟨19, _⟩ => ⟨S128x256, .f32⟩
  | .local _ .vmem, ⟨20, _⟩ => ⟨S1024x256, .f32⟩
  | .local _ .vmem, ⟨21, _⟩ => ⟨S1024x256, .f32⟩
  | .local _ .vmem, ⟨22, _⟩ => ⟨S128x256, .f32⟩
  | .local _ .vmem, ⟨23, _⟩ => ⟨S128x256, .f32⟩
  | .local _ .vmem, ⟨24, _⟩ => ⟨S1024x256, .bf16⟩
  | .local _ .vmem, ⟨25, _⟩ => ⟨S1024x256, .bf16⟩
  | .local _ .vmem, ⟨26, _⟩ => ⟨S1024x256, .bf16⟩
  | .local _ .vmem, ⟨27, _⟩ => ⟨S1024x256, .bf16⟩
  | .local _ .vmem, ⟨28, _⟩ => ⟨S1024x256, .bf16⟩
  | .local _ .vmem, ⟨29, _⟩ => ⟨S1024x256, .bf16⟩
  | .local _ .vmem, ⟨30, _⟩ => ⟨S512x256, .f32⟩
  | .local _ .vmem, ⟨31, _⟩ => ⟨S512x128, .f32⟩
  | _, _ => ⟨S16x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== KernelIdeal.lean ====
variable {F : FTy → Type} [FloatOps F] [Named F]
def κ : String → Option EReal := fun
  | "mask" => some ⊥
  | _ => none
-- ==== Kernel2.lean ====
abbrev S8192x1024 : Shape := ⟨2, ![8192, 1024]⟩
abbrev S1024 : Shape := ⟨1, ![1024]⟩
abbrev S1024x3328 : Shape := ⟨2, ![1024, 3328]⟩
abbrev S8192x3328 : Shape := ⟨2, ![8192, 3328]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x416x1024 : Shape := ⟨3, ![8, 416, 1024]⟩
abbrev S1024x1024 : Shape := ⟨2, ![1024, 1024]⟩
abbrev S1024x1664 : Shape := ⟨2, ![1024, 1664]⟩
abbrev S4x416x1024 : Shape := ⟨3, ![4, 416, 1024]⟩
abbrev S1664x1024 : Shape := ⟨2, ![1664, 1024]⟩
abbrev S416x1024 : Shape := ⟨2, ![416, 1024]⟩
abbrev S1x416x1024 : Shape := ⟨3, ![1, 416, 1024]⟩

abbrev nBuf : Space → Nat
  | .hbm => 23
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3328, .f32⟩
  | .hbm, ⟨3, _⟩ => ⟨S8192x3328, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x3328, .bf16⟩
  | .hbm, ⟨22, _⟩ => ⟨S8x416x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S4x416x1024, .bf16⟩
  | .local _ .vmem, ⟨5, _⟩ => ⟨S4x416x1024, .bf16⟩
  | .local _ .vmem, ⟨6, _⟩ => ⟨S1664x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x416x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x1024 : Shape := ⟨2, ![8192, 1024]⟩
abbrev S1024 : Shape := ⟨1, ![1024]⟩
abbrev S1024x3328 : Shape := ⟨2, ![1024, 3328]⟩
abbrev S8192x3328 : Shape := ⟨2, ![8192, 3328]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S3328x1024 : Shape := ⟨2, ![3328, 1024]⟩
abbrev S8x416x1024 : Shape := ⟨3, ![8, 416, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3328, .f32⟩
  | .hbm, ⟨3, _⟩ => ⟨S8192x3328, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x3328, .f32⟩
  | .hbm, ⟨21, _⟩ => ⟨S3328x1024, .f32⟩
  | .hbm, ⟨22, _⟩ => ⟨S1024x3328, .f32⟩
  | .hbm, ⟨23, _⟩ => ⟨S3328x1024, .f32⟩
  | .hbm, ⟨24, _⟩ => ⟨S8x416x1024, .f32⟩
  | .hbm, ⟨25, _⟩ => ⟨S8x416x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x3328 : Shape := ⟨2, ![1024, 3328]⟩
abbrev S8192x2304 : Shape := ⟨2, ![8192, 2304]⟩
abbrev S8192x256 : Shape := ⟨2, ![8192, 256]⟩
abbrev S8192x1x256 : Shape := ⟨3, ![8192, 1, 256]⟩
abbrev S1x8192x256 : Shape := ⟨3, ![1, 8192, 256]⟩
abbrev S2048x4x256 : Shape := ⟨3, ![2048, 4, 256]⟩
abbrev S4x2048x256 : Shape := ⟨3, ![4, 2048, 256]⟩
abbrev S512x16x256 : Shape := ⟨3, ![512, 16, 256]⟩
abbrev S16x512x256 : Shape := ⟨3, ![16, 512, 256]⟩
abbrev S1x1024 : Shape := ⟨2, ![1, 1024]⟩
abbrev S3328x1024 : Shape := ⟨2, ![3328, 1024]⟩
abbrev S8192x3328 : Shape := ⟨2, ![8192, 3328]⟩
abbrev S512x1024 : Shape := ⟨2, ![512, 1024]⟩
abbrev S512x2304 : Shape := ⟨2, ![512, 2304]⟩
abbrev S1x512x256 : Shape := ⟨3, ![1, 512, 256]⟩
abbrev S4x128x256 : Shape := ⟨3, ![4, 128, 256]⟩
abbrev S16x32x256 : Shape := ⟨3, ![16, 32, 256]⟩
abbrev S512x256 : Shape := ⟨2, ![512, 256]⟩
abbrev S512x3328 : Shape := ⟨2, ![512, 3328]⟩
abbrev S2x512x128 : Shape := ⟨3, ![2, 512, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 49
  | .vmem => 38
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3328, .f32⟩
  | .hbm, ⟨3, _⟩ => ⟨S8192x1024, .f32⟩
  | .hbm, ⟨4, _⟩ => ⟨S8192x2304, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S8192x1x256, .f32⟩
  | .hbm, ⟨16, _⟩ => ⟨S1x8192x256, .f32⟩
  | .hbm, ⟨17, _⟩ => ⟨S1x8192x256, .bf16⟩
  | .hbm, ⟨18, _⟩ => ⟨S8192x1x256, .f32⟩
  | .hbm, ⟨19, _⟩ => ⟨S1x8192x256, .f32⟩
  | .hbm, ⟨20, _⟩ => ⟨S1x8192x256, .bf16⟩
  | .hbm, ⟨21, _⟩ => ⟨S8192x1x256, .f32⟩
  | .hbm, ⟨22, _⟩ => ⟨S1x8192x256, .f32⟩
  | .hbm, ⟨23, _⟩ => ⟨S1x8192x256, .bf16⟩
  | .hbm, ⟨24, _⟩ => ⟨S2048x4x256, .f32⟩
  | .hbm, ⟨25, _⟩ => ⟨S4x2048x256, .f32⟩
  | .hbm, ⟨26, _⟩ => ⟨S4x2048x256, .bf16⟩
  | .hbm, ⟨27, _⟩ => ⟨S2048x4x256, .f32⟩
  | .hbm, ⟨28, _⟩ => ⟨S4x2048x256, .f32⟩
  | .hbm, ⟨29, _⟩ => ⟨S4x2048x256, .bf16⟩
  | .hbm, ⟨30, _⟩ => ⟨S2048x4x256, .f32⟩
  | .hbm, ⟨31, _⟩ => ⟨S4x2048x256, .f32⟩
  | .hbm, ⟨32, _⟩ => ⟨S4x2048x256, .bf16⟩
  | .hbm, ⟨33, _⟩ => ⟨S512x16x256, .f32⟩
  | .hbm, ⟨34, _⟩ => ⟨S16x512x256, .f32⟩
  | .hbm, ⟨35, _⟩ => ⟨S16x512x256, .bf16⟩
  | .hbm, ⟨36, _⟩ => ⟨S512x16x256, .f32⟩
  | .hbm, ⟨37, _⟩ => ⟨S16x512x256, .f32⟩
  | .hbm, ⟨38, _⟩ => ⟨S16x512x256, .bf16⟩
  | .hbm, ⟨39, _⟩ => ⟨S512x16x256, .f32⟩
  | .hbm, ⟨40, _⟩ => ⟨S16x512x256, .f32⟩
  | .hbm, ⟨41, _⟩ => ⟨S16x512x256, .bf16⟩
  | .hbm, ⟨42, _⟩ => ⟨S1x1024, .f32⟩
  | .hbm, ⟨43, _⟩ => ⟨S3328x1024, .f32⟩
  | .hbm, ⟨44, _⟩ => ⟨S3328x1024, .bf16⟩
  | .hbm, ⟨45, _⟩ => ⟨S8192x1024, .f32⟩
  | .hbm, ⟨46, _⟩ => ⟨S8192x3328, .bf16⟩
  | .hbm, ⟨47, _⟩ => ⟨S8192x1024, .bf16⟩
  | .hbm, ⟨48, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x2304, .f32⟩
  | .local _ .vmem, ⟨6, _⟩ => ⟨S512x2304, .f32⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .bf16⟩
  | .local _ .vmem, ⟨13, _⟩ => ⟨S4x128x256, .bf16⟩
  | .local _ .vmem, ⟨14, _⟩ => ⟨S4x128x256, .bf16⟩
  | .local _ .vmem, ⟨15, _⟩ => ⟨S4x128x256, .bf16⟩
  | .local _ .vmem, ⟨16, _⟩ => ⟨S4x128x256, .bf16⟩
  | .local _ .vmem, ⟨17, _⟩ => ⟨S4x128x256, .bf16⟩
  | .local _ .vmem, ⟨18, _⟩ => ⟨S4x128x256, .bf16⟩
  | .local _ .vmem, ⟨19, _⟩ => ⟨S16x32x256, .bf16⟩
  | .local _ .vmem, ⟨20, _⟩ => ⟨S16x32x256, .bf16⟩
  | .local _ .vmem, ⟨21, _⟩ => ⟨S16x32x256, .bf16⟩
  | .local _ .vmem, ⟨22, _⟩ => ⟨S16x32x256, .bf16⟩
  | .local _ .vmem, ⟨23, _⟩ => ⟨S16x32x256, .bf16⟩
  | .local _ .vmem, ⟨24, _⟩ => ⟨S16x32x256, .bf16⟩
  | .local _ .vmem, ⟨25, _⟩ => ⟨S512x256, .f32⟩
  | .local _ .vmem, ⟨26, _⟩ => ⟨S512x256, .f32⟩
  | .local _ .vmem, ⟨27, _⟩ => ⟨S3328x1024, .bf16⟩
  | .local _ .vmem, ⟨28, _⟩ => ⟨S512x1024, .f32⟩
  | .local _ .vmem, ⟨29, _⟩ => ⟨S512x1024, .f32⟩
  | .local _ .vmem, ⟨30, _⟩ => ⟨S512x3328, .bf16⟩
  | .local _ .vmem, ⟨31, _⟩ => ⟨S512x3328, .bf16⟩
  | .local _ .vmem, ⟨32, _⟩ => ⟨S512x1024, .bf16⟩
  | .local _ .vmem, ⟨33, _⟩ => ⟨S512x1024, .bf16⟩
  | .local _ .vmem, ⟨34, _⟩ => ⟨S1x1024, .f32⟩
  | .local _ .vmem, ⟨35, _⟩ => ⟨S2x512x128, .f32⟩
  | .local _ .vmem, ⟨36, _⟩ => ⟨S2x512x128, .f32⟩
  | .local _ .vmem, ⟨37, _⟩ => ⟨S2x512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30_0 : Ref sig .tc := ⟨.hbm, 45, rfl⟩
abbrev main_v30_1 : Ref sig .tc := ⟨.hbm, 46, rfl⟩
abbrev main_v30_2 : Ref sig .tc := ⟨.hbm, 47, rfl⟩
abbrev main_v30_3 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x32x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x32x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x32x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S3328x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x3328 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference3Ideal.lean ====
abbrev S8192x1024 : Shape := ⟨2, ![8192, 1024]⟩
abbrev S1024 : Shape := ⟨1, ![1024]⟩
abbrev S1024x3328 : Shape := ⟨2, ![1024, 3328]⟩
abbrev S8192x2304 : Shape := ⟨2, ![8192, 2304]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3328 : Shape := ⟨2, ![8192, 3328]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3328, .f32⟩
  | .hbm, ⟨3, _⟩ => ⟨S8192x1024, .f32⟩
  | .hbm, ⟨4, _⟩ => ⟨S8192x2304, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x3328, .f32⟩
  | .hbm, ⟨36, _⟩ => ⟨S8192x2304, .f32⟩
  | .hbm, ⟨37, _⟩ => ⟨S8192x256, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S8192x256, .f32⟩
  | .hbm, ⟨43, _⟩ => ⟨S8192x256, .f32⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S8192x3328, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x3328 : Shape := ⟨2, ![1024, 3328]⟩
abbrev S3x256 : Shape := ⟨2, ![3, 256]⟩
abbrev S4x256 : Shape := ⟨2, ![4, 256]⟩
abbrev S256 : Shape := ⟨1, ![256]⟩
abbrev S4x64x64 : Shape := ⟨3, ![4, 64, 64]⟩
abbrev S4x128x128 : Shape := ⟨3, ![4, 128, 128]⟩
abbrev S4x128 : Shape := ⟨2, ![4, 128]⟩
abbrev S1x1024 : Shape := ⟨2, ![1, 1024]⟩
abbrev S3328x1024 : Shape := ⟨2, ![3328, 1024]⟩
abbrev S_ : Shape := ⟨0, ![]⟩
abbrev S128x128 : Shape := ⟨2, ![128, 128]⟩
abbrev S1x256 : Shape := ⟨2, ![1, 256]⟩
abbrev S5x256 : Shape := ⟨2, ![5, 256]⟩
abbrev S8x256 : Shape := ⟨2, ![8, 256]⟩
abbrev S4x4 : Shape := ⟨2, ![4, 4]⟩
abbrev S4x64x1x64 : Shape := ⟨4, ![4, 64, 1, 64]⟩
abbrev S4x1x4x1 : Shape := ⟨4, ![4, 1, 4, 1]⟩
abbrev S4x64x4x64 : Shape := ⟨4, ![4, 64, 4, 64]⟩
abbrev S256x256 : Shape := ⟨2, ![256, 256]⟩
abbrev S1x128x128 : Shape := ⟨3, ![1, 128, 128]⟩
abbrev S128x4 : Shape := ⟨2, ![128, 4]⟩
abbrev S128x4x64 : Shape := ⟨3, ![128, 4, 64]⟩
abbrev S128x256 : Shape := ⟨2, ![128, 256]⟩
abbrev S8192x2304 : Shape := ⟨2, ![8192, 2304]⟩
abbrev S8192x256 : Shape := ⟨2, ![8192, 256]⟩
abbrev S1x8192x768 : Shape := ⟨3, ![1, 8192, 768]⟩
abbrev S4x2048x768 : Shape := ⟨3, ![4, 2048, 768]⟩
abbrev S16x512x768 : Shape := ⟨3, ![16, 512, 768]⟩
abbrev S8192x768 : Shape := ⟨2, ![8192, 768]⟩
abbrev S512x1024 : Shape := ⟨2, ![512, 1024]⟩
abbrev S512x2304 : Shape := ⟨2, ![512, 2304]⟩
abbrev S512x256 : Shape := ⟨2, ![512, 256]⟩
abbrev S1x512x768 : Shape := ⟨3, ![1, 512, 768]⟩
abbrev S4x128x768 : Shape := ⟨3, ![4, 128, 768]⟩
abbrev S16x32x768 : Shape := ⟨3, ![16, 32, 768]⟩
abbrev S512x768 : Shape := ⟨2, ![512, 768]⟩
abbrev S6x512x128 : Shape := ⟨3, ![6, 512, 128]⟩
abbrev S8x2304 : Shape := ⟨2, ![8, 2304]⟩
abbrev S2x512x128 : Shape := ⟨3, ![2, 512, 128]⟩
abbrev S64x256 : Shape := ⟨2, ![64, 256]⟩
abbrev S512 : Shape := ⟨1, ![512]⟩
abbrev S512x1 : Shape := ⟨2, ![512, 1]⟩
abbrev S2304x1024 : Shape := ⟨2, ![2304, 1024]⟩
abbrev S768x1024 : Shape := ⟨2, ![768, 1024]⟩
abbrev S512x128 : Shape := ⟨2, ![512, 128]⟩
abbrev S1x512x128 : Shape := ⟨3, ![1, 512, 128]⟩
abbrev S256x1024 : Shape := ⟨2, ![256, 1024]⟩
abbrev S1x32x128 : Shape := ⟨3, ![1, 32, 128]⟩
abbrev S32x128 : Shape := ⟨2, ![32, 128]⟩
abbrev S504x256 : Shape := ⟨2, ![504, 256]⟩
abbrev S64x8x256 : Shape := ⟨3, ![64, 8, 256]⟩
abbrev S1x64x128 : Shape := ⟨3, ![1, 64, 128]⟩
abbrev S64x128 : Shape := ⟨2, ![64, 128]⟩
abbrev S56x256 : Shape := ⟨2, ![56, 256]⟩

abbrev nBuf : Space → Nat
  | .hbm => 90
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3328, .f32⟩
  | .hbm, ⟨3, _⟩ => ⟨S3x256, .f32⟩
  | .hbm, ⟨4, _⟩ => ⟨S4x256, .f32⟩
  | .hbm, ⟨5, _⟩ => ⟨S256, .f32⟩
  | .hbm, ⟨6, _⟩ => ⟨S4x64x64, .f32⟩
  | .hbm, ⟨7, _⟩ => ⟨S256, .f32⟩
  | .hbm, ⟨8, _⟩ => ⟨S4x64x64, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S4x128x128, .f32⟩
  | .hbm, ⟨13, _⟩ => ⟨S4x128, .f32⟩
  | .hbm, ⟨14, _⟩ => ⟨S1x1024, .f32⟩
  | .hbm, ⟨15, _⟩ => ⟨S3328x1024, .f32⟩
  | .hbm, ⟨16, _⟩ => ⟨S3328x1024, .bf16⟩
  | .hbm, ⟨17, _⟩ => ⟨S_, .i1⟩
  | .hbm, ⟨18, _⟩ => ⟨S128x128, .i1⟩
  | .hbm, ⟨19, _⟩ => ⟨S128x128, .i32⟩
  | .hbm, ⟨20, _⟩ => ⟨S_, .i32⟩
  | .hbm, ⟨21, _⟩ => ⟨S128x128, .i32⟩
  | .hbm, ⟨22, _⟩ => ⟨S128x128, .i32⟩
  | .hbm, ⟨23, _⟩ => ⟨S128x128, .i32⟩
  | .hbm, ⟨24, _⟩ => ⟨S128x128, .i1⟩
  | .hbm, ⟨25, _⟩ => ⟨S_, .i1⟩
  | .hbm, ⟨26, _⟩ => ⟨S128x128, .i1⟩
  | .hbm, ⟨27, _⟩ => ⟨S128x128, .i1⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S5x256, .f32⟩
  | .hbm, ⟨34, _⟩ => ⟨S_, .i32⟩
  | .hbm, ⟨35, _⟩ => ⟨S_, .f32⟩
  | .hbm, ⟨36, _⟩ => ⟨S8x256, .f32⟩
  | .hbm, ⟨37, _⟩ => ⟨S_, .i32⟩
  | .hbm, ⟨38, _⟩ => ⟨S_, .f32⟩
  | .hbm, ⟨39, _⟩ => ⟨S8x256, .f32⟩
  | .hbm, ⟨40, _⟩ => ⟨S_, .i32⟩
  | .hbm, ⟨41, _⟩ => ⟨S_, .f32⟩
  | .hbm, ⟨42, _⟩ => ⟨S8x256, .f32⟩
  | .hbm, ⟨43, _⟩ => ⟨S4x4, .i32⟩
  | .hbm, ⟨44, _⟩ => ⟨S4x4, .i32⟩
  | .hbm, ⟨45, _⟩ => ⟨S_, .i32⟩
  | .hbm, ⟨46, _⟩ => ⟨S4x4, .i32⟩
  | .hbm, ⟨47, _⟩ => ⟨S4x4, .i32⟩
  | .hbm, ⟨48, _⟩ => ⟨S4x4, .i1⟩
  | .hbm, ⟨49, _⟩ => ⟨S4x4, .f32⟩
  | .hbm, ⟨50, _⟩ => ⟨S4x64x1x64, .f32⟩
  | .hbm, ⟨51, _⟩ => ⟨S4x1x4x1, .f32⟩
  | .hbm, ⟨52, _⟩ => ⟨S4x64x4x64, .f32⟩
  | .hbm, ⟨53, _⟩ => ⟨S4x64x4x64, .f32⟩
  | .hbm, ⟨54, _⟩ => ⟨S4x64x4x64, .f32⟩
  | .hbm, ⟨55, _⟩ => ⟨S256x256, .f32⟩
  | .hbm, ⟨56, _⟩ => ⟨S256x256, .bf16⟩
  | .hbm, ⟨57, _⟩ => ⟨S4x4, .i32⟩
  | .hbm, ⟨58, _⟩ => ⟨S4x4, .i32⟩
  | .hbm, ⟨59, _⟩ => ⟨S_, .i32⟩
  | .hbm, ⟨60, _⟩ => ⟨S4x4, .i32⟩
  | .hbm, ⟨61, _⟩ => ⟨S4x4, .i32⟩
  | .hbm, ⟨62, _⟩ => ⟨S4x4, .i1⟩
  | .hbm, ⟨63, _⟩ => ⟨S4x4, .f32⟩
  | .hbm, ⟨64, _⟩ => ⟨S4x64x1x64, .f32⟩
  | .hbm, ⟨65, _⟩ => ⟨S4x1x4x1, .f32⟩
  | .hbm, ⟨66, _⟩ => ⟨S4x64x4x64, .f32⟩
  | .hbm, ⟨67, _⟩ => ⟨S4x64x4x64, .f32⟩
  | .hbm, ⟨68, _⟩ => ⟨S4x64x4x64, .f32⟩
  | .hbm, ⟨69, _⟩ => ⟨S256x256, .f32⟩
  | .hbm, ⟨70, _⟩ => ⟨S256x256, .bf16⟩
  | .hbm, ⟨71, _⟩ => ⟨S1x128x128, .i1⟩
  | .hbm, ⟨72, _⟩ => ⟨S_, .f32⟩
  | .hbm, ⟨73, _⟩ => ⟨S_, .f32⟩
  | .hbm, ⟨74, _⟩ => ⟨S4x128x128, .i1⟩
  | .hbm, ⟨75, _⟩ => ⟨S4x128x128, .f32⟩
  | .hbm, ⟨76, _⟩ => ⟨S4x128x128, .f32⟩
  | .hbm, ⟨77, _⟩ => ⟨S4x128x128, .bf16⟩
  | .hbm, ⟨78, _⟩ => ⟨S128x4, .f32⟩
  | .hbm, ⟨79, _⟩ => ⟨S128x4x64, .f32⟩
  | .hbm, ⟨80, _⟩ => ⟨S128x256, .f32⟩
  | .hbm, ⟨81, _⟩ => ⟨S8192x2304, .f32⟩
  | .hbm, ⟨82, _⟩ => ⟨S8192x256, .f32⟩
  | .hbm, ⟨83, _⟩ => ⟨S1x8192x768, .bf16⟩
  | .hbm, ⟨84, _⟩ => ⟨S4x2048x768, .bf16⟩
  | .hbm, ⟨85, _⟩ => ⟨S16x512x768, .bf16⟩
  | .hbm, ⟨86, _⟩ => ⟨S8192x768, .bf16⟩
  | .hbm, ⟨87, _⟩ => ⟨S8192x256, .f32⟩
  | .hbm, ⟨88, _⟩ => ⟨S8192x256, .f32⟩
  | .hbm, ⟨89, _⟩ => ⟨S8192x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3328x1024, .bf16⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S256x256, .bf16⟩
  | .local _ .vmem, ⟨8, _⟩ => ⟨S256x256, .bf16⟩
  | .local _ .vmem, ⟨9, _⟩ => ⟨S4x128x128, .bf16⟩
  | .local _ .vmem, ⟨10, _⟩ => ⟨S128x256, .f32⟩
  | .local _ .vmem, ⟨11, _⟩ => ⟨S512x2304, .f32⟩
  | .local _ .vmem, ⟨12, _⟩ => ⟨S512x2304, .f32⟩
  | .local _ .vmem, ⟨13, _⟩ => ⟨S512x256, .f32⟩
  | .local _ .vmem, ⟨14, _⟩ => ⟨S512x256, .f32⟩
  | .local _ .vmem, ⟨15, _⟩ => ⟨S1x512x768, .bf16⟩
  | .local _ .vmem, ⟨16, _⟩ => ⟨S1x512x768, .bf16⟩
  | .local _ .vmem, ⟨17, _⟩ => ⟨S4x128x768, .bf16⟩
  | .local _ .vmem, ⟨18, _⟩ => ⟨S4x128x768, .bf16⟩
  | .local _ .vmem, ⟨19, _⟩ => ⟨S16x32x768, .bf16⟩
  | .local _ .vmem, ⟨20, _⟩ => ⟨S16x32x768, .bf16⟩
  | .local _ .vmem, ⟨21, _⟩ => ⟨S512x768, .bf16⟩
  | .local _ .vmem, ⟨22, _⟩ => ⟨S512x768, .bf16⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x256, .f32⟩
  | .local _ .vmem, ⟨27, _⟩ => ⟨S512x256, .f32⟩
  | .local _ .vmem, ⟨28, _⟩ => ⟨S512x256, .f32⟩
  | .local _ .vmem, ⟨29, _⟩ => ⟨S6x512x128, .f32⟩
  | .local _ .vmem, ⟨30, _⟩ => ⟨S8x2304, .f32⟩
  | .local _ .vmem, ⟨31, _⟩ => ⟨S8x256, .f32⟩
  | .local _ .vmem, ⟨32, _⟩ => ⟨S2x512x128, .f32⟩
  | .local _ .vmem, ⟨33, _⟩ => ⟨S2x512x128, .f32⟩
  | .local _ .vmem, ⟨34, _⟩ => ⟨S64x256, .f32⟩
  | .local _ .vmem, ⟨35, _⟩ => ⟨S6x512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_0 : Ref sig .tc := ⟨.hbm, 34, rfl⟩
abbrev main_call1_v0 : Ref sig .tc := ⟨.hbm, 35, rfl⟩
abbrev main_v11 : Ref sig .tc := ⟨.hbm, 36, rfl⟩
abbrev main_c_1 : Ref sig .tc := ⟨.hbm, 37, rfl⟩
abbrev main_call2_v0 : Ref sig .tc := ⟨.hbm, 38, rfl⟩
abbrev main_v12 : Ref sig .tc := ⟨.hbm, 39, rfl⟩
abbrev main_c_2 : Ref sig .tc := ⟨.hbm, 40, rfl⟩
abbrev main_call3_v0 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c_3 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_4 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst : Ref sig .tc := ⟨.hbm, 72, rfl⟩
abbrev main_call4_v0 : Ref sig .tc := ⟨.hbm, 73, rfl⟩
abbrev main_call4_v1 : Ref sig .tc := ⟨.hbm, 74, rfl⟩
abbrev main_call4_v2 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46_0 : Ref sig .tc := ⟨.hbm, 81, rfl⟩
abbrev main_v46_1 : Ref sig .tc := ⟨.hbm, 82, rfl⟩
abbrev main_v46_2 : Ref sig .tc := ⟨.hbm, 83, rfl⟩
abbrev main_v46_3 : Ref sig .tc := ⟨.hbm, 84, rfl⟩
abbrev main_v46_4 : Ref sig .tc := ⟨.hbm, 85, rfl⟩
abbrev main_v46_5 : Ref sig .tc := ⟨.hbm, 86, rfl⟩
abbrev main_v46_6 : Ref sig .tc := ⟨.hbm, 87, rfl⟩
abbrev main_v46_7 : Ref sig .tc := ⟨.hbm, 88, rfl⟩
abbrev main_v46_8 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3328x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2304 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x128x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x32x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x768 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference4Ideal.lean ====
abbrev S8192x1024 : Shape := ⟨2, ![8192, 1024]⟩
abbrev S1024 : Shape := ⟨1, ![1024]⟩
abbrev S1024x3328 : Shape := ⟨2, ![1024, 3328]⟩
abbrev S3x256 : Shape := ⟨2, ![3, 256]⟩
abbrev S4x256 : Shape := ⟨2, ![4, 256]⟩
abbrev S256 : Shape := ⟨1, ![256]⟩
abbrev S4x64x64 : Shape := ⟨3, ![4, 64, 64]⟩
abbrev S4x128x128 : Shape := ⟨3, ![4, 128, 128]⟩
abbrev S4x128 : Shape := ⟨2, ![4, 128]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3328 : Shape := ⟨2, ![8192, 3328]⟩
abbrev S8192x2304 : Shape := ⟨2, ![8192, 2304]⟩
abbrev S8192x256 : Shape := ⟨2, ![8192, 256]⟩
abbrev S8192x768 : Shape := ⟨2, ![8192, 768]⟩
abbrev S8192x1x768 : Shape := ⟨3, ![8192, 1, 768]⟩
abbrev S1x8192x768 : Shape := ⟨3, ![1, 8192, 768]⟩
abbrev S2048x4x768 : Shape := ⟨3, ![2048, 4, 768]⟩
abbrev S4x2048x768 : Shape := ⟨3, ![4, 2048, 768]⟩
abbrev S512x16x768 : Shape := ⟨3, ![512, 16, 768]⟩
abbrev S16x512x768 : Shape := ⟨3, ![16, 512, 768]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3328, .f32⟩
  | .hbm, ⟨3, _⟩ => ⟨S3x256, .f32⟩
  | .hbm, ⟨4, _⟩ => ⟨S4x256, .f32⟩
  | .hbm, ⟨5, _⟩ => ⟨S256, .f32⟩
  | .hbm, ⟨6, _⟩ => ⟨S4x64x64, .f32⟩
  | .hbm, ⟨7, _⟩ => ⟨S256, .f32⟩
  | .hbm, ⟨8, _⟩ => ⟨S4x64x64, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S4x128x128, .f32⟩
  | .hbm, ⟨13, _⟩ => ⟨S4x128, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x3328, .f32⟩
  | .hbm, ⟨31, _⟩ => ⟨S8192x2304, .f32⟩
  | .hbm, ⟨32, _⟩ => ⟨S8192x256, .f32⟩
  | .hbm, ⟨33, _⟩ => ⟨S8192x768, .f32⟩
  | .hbm, ⟨34, _⟩ => ⟨S8192x768, .bf16⟩
  | .hbm, ⟨35, _⟩ => ⟨S8192x1x768, .bf16⟩
  | .hbm, ⟨36, _⟩ => ⟨S1x8192x768, .bf16⟩
  | .hbm, ⟨37, _⟩ => ⟨S8192x768, .f32⟩
  | .hbm, ⟨38, _⟩ => ⟨S8192x768, .bf16⟩
  | .hbm, ⟨39, _⟩ => ⟨S2048x4x768, .bf16⟩
  | .hbm, ⟨40, _⟩ => ⟨S4x2048x768, .bf16⟩
  | .hbm, ⟨41, _⟩ => ⟨S8192x768, .f32⟩
  | .hbm, ⟨42, _⟩ => ⟨S8192x768, .bf16⟩
  | .hbm, ⟨43, _⟩ => ⟨S512x16x768, .bf16⟩
  | .hbm, ⟨44, _⟩ => ⟨S16x512x768, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Proof.Wgrad.lean ====
/- The gradient of the input projection's weight: what the grid accumulates is the product that the reference states. -/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pipeline.ReadBack
public import Idealize.ShloMosaic.Lib.Pointwise

@[expose] public section

noncomputable section

namespace Cert.Kernel2Ideal.Wgrad

open Idealize.ShloMosaic Idealize.ShloMosaic.TcCoe Idealize.SL.Sem
open Cert.Kernel2Ideal Cert.Kernel2Ideal.Gen Cert.Kernel2Ideal.Value
open Idealize.ShloMosaic.Pipeline (Dat)

variable (m : (ℓ : Loc nD τ sig) → Buf (Elt Ideal) ℓ)

/-- One entry of the product over all the positions: row `a`, column `b`. -/
def entry (h : FVec Ideal S8192x1024 .bf16) (dz : FVec Ideal S8192x3328 .bf16) (a : Fin 3328) (b : Fin 1024) : EReal :=
  ∑ k : Fin 8192, dz (ix2 k a) * h (ix2 k b)

/-- The product, cut into the devices' shares of its rows. -/
def product (h : FVec Ideal S8192x1024 .bf16) (dz : FVec Ideal S8192x3328 .bf16) : FVec Ideal S8x416x1024 .bf16 :=
  fun i => entry h dz ⟨(i 0 : ℕ) * 416 + i 1, by
    have h0 : (i 0).val < 8 := (i 0).isLt; have h1 : (i 1).val < 416 := (i 1).isLt; omega⟩ (i 2)

theorem zero_at (j) : k0_pay1 (F := Ideal) j = 0 := by pointwise [k0_pay1]

theorem step_at (acc dz h j) : k0_pay2 (F := Ideal) acc dz h j = acc j + ∑ k : Fin 1024, dz (ix2 k (j 0)) * h (ix2 k (j 1)) := by
  pointwise [k0_pay2]

theorem idx : ∀ t : Fin cfg0.N, win0_0.index t = ![t.val % 8, 0] ∧ win0_1.index t = ![t.val % 8, t.val / 8] ∧
    win0_2.index t = ![t.val / 8, 0, 0] := (by decide +kernel : ∀ t : Fin grid0.N, _)

/-- Reading a table at a pair of coordinates is reading it at the index that has them. -/
theorem at_point {α : Type} (w : S1664x1024.Idx → α) (p : Fin 1664) (q : Fin 1024) (i : S1664x1024.Idx)
    (hp : p.val = (i 0).val) (hq : q.val = (i 1).val) : w (ix2 p q) = w i := by
  refine congrArg w (funext fun a => Fin.ext ?_)
  match a with
  | ⟨0, _⟩ => exact hp
  | ⟨1, _⟩ => exact hq

/-- What a last point of a run writes back is its scratch, cut into four. -/
theorem out_at (c : Dev nD) (t : Fin cfg0.N) (h0 : ¬ t.val % 8 = 0) (h1 : t.val % 8 = 7) (y : S4x416x1024.Idx) (i : S1664x1024.Idx)
    (hi0 : (i 0 : ℕ) = y 0 * 416 + y 1) (hi1 : (i 1 : ℕ) = y 2) :
    (outsAt0 m c t.val t.isLt).1 y = (outsAt0 m c t.val t.isLt).2 i := by
  rw [outsAt0_C m c t h0 h1]
  frame_out
  canon_tiles x h
  all_goals
    rw [View.readCov_fill _ _ _ _ _ (by decide)]
    simp only [k0_pay3, k0_pay4, k0_pay5, k0_pay6]
    pointwise
    generalize k0_pay2 (F := Ideal) _ _ _ = w
    refine at_point w _ _ i ?_ ?_
    · simp only [hi0, h0, h1]; omega
    · omega

/-- What a run leaves in the scratch: the sum over its eight points. -/
theorem scratch_at (c : Dev nD) (t : Fin cfg0.N) (h1 : t.val % 8 = 7) (i : S1664x1024.Idx) :
    (outsAt0 m c t.val t.isLt).2 i = ∑ s : Fin 8, ∑ k : Fin 1024,
      (show FVec Ideal S1024x1664 .bf16 from iblk m c 1 ⟨8 * (t.val / 8) + s.val, Pipeline.run_point_lt_of_flush t h1 s⟩) (ix2 k (i 0)) *
      (show FVec Ideal S1024x1024 .bf16 from iblk m c 0 ⟨8 * (t.val / 8) + s.val, Pipeline.run_point_lt_of_flush t h1 s⟩) (ix2 k (i 1)) := by
  rw [Pipeline.eq_sum_fin_of_reset_step_apply_of_flush (fun n h => (outsAt0 m c n h).2) 8 (fun _ => 0) _
    (fun t h j => by rw [outsAt0_A m c t h (by omega)]; frame_out; rw [step_at, zero_at])
    (fun t h j => by
      by_cases h1 : t.val % 8 = 7
      · rw [outsAt0_C m c t h h1]; frame_out; rw [step_at, read_unread_whole]
      · rw [outsAt0_B m c t h h1]; frame_out; rw [step_at, read_unread_whole])
    t h1 _, zero_add]

theorem final (c : Dev nD) : (dats m 0 c).arrAt 2 cfg0.N = product (V m c main_v13) (V m c main_v14) := by
  refine (dats m 0 c).arrAt_eq_of_covers 2 _ (by decide +kernel) fun t hf y => ?_
  have h1 := (flush0_2 t).mp hf
  blk_simp
  rw [after0_2]
  obtain_idx i : S1664x1024 := [(y 0 : ℕ) * 416 + y 1, (y 2 : ℕ)] with hi
  rw [out_at m c t (by omega) h1 y i hi0 hi1, scratch_at m c t h1]
  unfold product entry
  refine Fin.sum_mul_add_congr fun s k hl => ?_
  blk_point [iblk, V, idx t, idx ⟨_, Pipeline.run_point_lt_of_flush t h1 s⟩]

/-- The activations the call is given: the reference's own normalisation. -/
theorem V_h (c : Dev nD) : V m c main_v13 = Cert.Reference2Ideal.Read.val_main_v12 (F := Ideal)
    (m ((c : Thread nD τ).loc main_arg0)) (m ((c : Thread nD τ).loc main_arg1)) := by
  entry_read
  rfl

/-- The cotangent the call is given. -/
theorem V_dz (c : Dev nD) : V m c main_v14 = m ((c : Thread nD τ).loc main_arg3) := by
  entry_read
  rfl

/-- The reference's result is that product. -/
theorem reference_eq (x0 : FVec Ideal S8192x1024 .f32) (x1 : FVec Ideal S1024 .f32) (x3 : FVec Ideal S8192x3328 .f32) :
    Cert.Reference2Ideal.Read.val_main_v18 (F := Ideal) x0 x1 x3 =
      product (Cert.Reference2Ideal.Read.val_main_v12 (F := Ideal) x0 x1) x3 := by
  funext i
  rw [Cert.Reference2Ideal.Read.val_main_v18_apply, Cert.Reference2Ideal.Read.val_main_v17_apply,
    Cert.Reference2Ideal.Read.val_main_v16_apply, Cert.Reference2Ideal.Read.val_main_v15_apply,
    Cert.Reference2Ideal.Read.val_main_v14_apply]
  unfold product entry
  have h0 : (i 0).val < 8 := (i 0).isLt
  have h1 : (i 1).val < 416 := (i 1).isLt
  have h2 : (i 2).val < 1024 := (i 2).isLt
  refine Finset.sum_congr rfl fun k _ => congrArg₂ (· * ·) (congrArg x3 (funext fun a => Fin.ext ?_))
    (congrArg (Cert.Reference2Ideal.Read.val_main_v12 (F := Ideal) x0 x1) (funext fun a => Fin.ext ?_))
  · match a with
    | ⟨0, _⟩ => rfl
    | ⟨1, _⟩ => show (((i 0).val * 416 + (i 1).val) * 1024 + (i 2).val) / 1024 = (i 0).val * 416 + (i 1).val; omega
  · match a with
    | ⟨0, _⟩ => rfl
    | ⟨1, _⟩ => show (((i 0).val * 416 + (i 1).val) * 1024 + (i 2).val) % 1024 = (i 2).val; omega

/-- What the kernel's result array ends with. -/
theorem kernel_eq (c : Dev nD) : G2 m c = Cert.Reference2Ideal.Read.val_main_v18 (F := Ideal)
    (m ((c : Thread nD τ).loc main_arg0)) (m ((c : Thread nD τ).loc main_arg1)) (m ((c : Thread nD τ).loc main_arg3)) := by
  rw [← final2 m c, final m c, V_h, V_dz, reference_eq]

end Cert.Kernel2Ideal.Wgrad

end
-- ==== Proof.InprojBody.lean ====
/- What the body of the input projection's backward pass computes from the blocks it holds, entry by entry. -/
module

public import proofs.«01_k».proof.Proof.Gen.Kernel3Ideal.Skeleton
public import Idealize.ShloMosaic.Lib.Pipeline.ValueKit
public import Idealize.ShloMosaic.Lib.Pointwise

@[expose] public section

noncomputable section

namespace Cert.Kernel3Ideal.Inproj

open Idealize.ShloMosaic Idealize.ShloMosaic.TcCoe
open Cert.Kernel3Ideal Cert.Kernel3Ideal.Gen

/-- The reciprocal root of a row's mean square. -/
def root (x : FVec Ideal S512x1024 .f32) (p : Fin 512) : EReal :=
  Ideal.rsqrt (Ideal.div (∑ k : Fin 1024, x (ix2 p k) * x (ix2 p k)) (Ideal.ofBits .f32 0x44800000#32) + Ideal.ofBits .f32 0x358637BD#32)

theorem root_at (x : FVec Ideal S512x1024 .f32) (i : S512x1.Idx) : k0_pay173 (F := Ideal) x i = root x (i 0) := by
  pointwise [k0_pay173]
  rfl

theorem zero_at (i) : k0_pay2 (F := Ideal) i = 0 := by pointwise [k0_pay2]

theorem dh_at (z : FVec Ideal S512x3328 .bf16) (w : FVec Ideal S3328x1024 .bf16) (p : Fin 512) (j : Fin 1024) :
    k0_pay172 (F := Ideal) z w (ix2 p j) = ∑ k : Fin 3328, z (ix2 p k) * w (ix2 k j) := by
  pointwise [k0_pay172]

theorem dx_at (x : FVec Ideal S512x1024 .f32) (g : FVec Ideal S1x1024 .f32) (a dh : FVec Ideal S512x1024 .f32) (p : Fin 512) (j : Fin 1024) :
    k0_pay1 (F := Ideal) (k0_pay173 x) (k0_pay178 dh (k0_pay175 g)) a (k0_pay179 dh (k0_pay174 x) (k0_pay175 g)) (ix2 p j) =
      a (ix2 p j) + root x p * (dh (ix2 p j) * g (ix2 0 j) - x (ix2 p j) * root x p *
        Ideal.div (∑ k : Fin 1024, dh (ix2 p k) * g (ix2 0 k) * (x (ix2 p k) * root x p)) (Ideal.ofBits .f32 0x44800000#32)) := by
  pointwise [k0_pay1, k0_pay178, k0_pay175, k0_pay179, k0_pay174, root_at]

theorem dg_at (x : FVec Ideal S512x1024 .f32) (dh : FVec Ideal S512x1024 .f32) (acc : FVec Ideal S1x1024 .f32) (i : S1x1024.Idx) :
    k0_pay177 (F := Ideal) dh (k0_pay174 x) acc i = acc i + ∑ p : Fin 512, dh (ix2 p (i 1)) * (x (ix2 p (i 1)) * root x p) := by
  pointwise [k0_pay177, k0_pay174, root_at]

end Cert.Kernel3Ideal.Inproj

end
-- ==== Proof.InprojRows.lean ====
/- The strided scratches of the input projection's backward call: what a load reads back after the residue classes
   of a dilation have been stored row by row. -/
module

public import proofs.«01_k».proof.Proof.InprojBody
public import Idealize.ShloMosaic.Lib.Pipeline.ReadBack
public import Idealize.ShloMosaic.Lib.Ring

@[expose] public section

noncomputable section

namespace Cert.Kernel3Ideal.Inproj

open Idealize.ShloMosaic Idealize.ShloMosaic.TcCoe Idealize.SL.Sem
open Cert.Kernel3Ideal Cert.Kernel3Ideal.Gen

/-! ## Loads after stores that hold one array -/

/-- A load after stores whose last `n` are blocks of `G` and cover the buffer reads `G`. -/
theorem readCov_of {sig : RefSig} {κ : Kind} {sp : Space} {s : Shape} {e : EltTy} (n : ℕ) (G : s.Idx → Elt Ideal e)
    (v : View sig κ sp s e) (L : List (View.Piece (Elt Ideal) s e)) (B : LoadRect s) (h : View.PiecesOf G (L.take n))
    (hc : ∀ y, ∃ p ∈ L.take n, y ∈ p.1.set) : v.readCov L B = fun j => G (B.idx j) := by
  rw [View.readCov_eq_canon']
  funext j
  conv_lhs => rw [← List.take_append_drop n L]
  exact View.canon_append_of_piecesOf G _ _ h _ (hc _)

/-- Whether a rectangle of whole rows holds row `b` of half `a`. -/
def rowIn (r : Rect S2x512x128) (a b : ℕ) : Bool :=
  decide (r.size 2 = 128 ∧ r.off 2 = 0 ∧ r.stride 2 = 1 ∧ r.off 0 = a ∧ 0 < r.size 0 ∧ r.off 1 ≤ b ∧
    (b - r.off 1) % r.stride 1 = 0 ∧ (b - r.off 1) / r.stride 1 < r.size 1)

/-- Whether every row of both halves lies in a rectangle. -/
def rowsCovered (R : List (Rect S2x512x128)) : Bool :=
  (List.range 2).all fun a => (List.range 512).all fun b => R.any fun r => rowIn r a b

theorem mem_of_rowIn (r : Rect S2x512x128) (y : S2x512x128.Idx) (h : rowIn r (y 0) (y 1) = true) : y ∈ r.set := by
  obtain ⟨h1, h2, h3, h4, h5, h6, h7, h8⟩ := of_decide_eq_true h
  refine r.mem_set.mpr fun a => ?_
  match a with
  | ⟨0, _⟩ => exact ⟨0, h5, h4.symm⟩
  | ⟨1, _⟩ =>
    refine ⟨((y 1 : ℕ) - r.off 1) / r.stride 1, h8, ?_⟩
    have := Nat.mul_div_cancel' (Nat.dvd_of_mod_eq_zero h7)
    change (y 1 : ℕ) = r.off 1 + r.stride 1 * (((y 1 : ℕ) - r.off 1) / r.stride 1)
    omega
  | ⟨2, _⟩ =>
    have h9 : (y 2 : ℕ) < 128 := (y 2).isLt
    refine ⟨(y 2 : ℕ), h1 ▸ h9, ?_⟩
    change (y 2 : ℕ) = r.off 2 + r.stride 2 * (y 2 : ℕ)
    rw [h2, h3]; omega

theorem cover_of_rows {e : EltTy} (L : List (View.Piece (Elt Ideal) S2x512x128 e)) (h : rowsCovered (L.map Sigma.fst) = true) (y : S2x512x128.Idx) :
    ∃ p ∈ L, y ∈ p.1.set := by
  have h0 : (y 0 : ℕ) < 2 := (y 0).isLt
  have h1 : (y 1 : ℕ) < 512 := (y 1).isLt
  have := List.all_eq_true.mp (List.all_eq_true.mp h _ (List.mem_range.mpr h0)) _ (List.mem_range.mpr h1)
  obtain ⟨r, hr, hy⟩ := List.any_eq_true.mp this
  obtain ⟨p, hp, rfl⟩ := List.mem_map.mp hr
  exact ⟨p, hp, mem_of_rowIn _ y hy⟩

/-! ## The interleaved rows -/

/-- Row `p` of the interleaved array of dilation 4 is row `p / 4` of the residue class `p % 4`. -/
def rows4 (x : FVec Ideal S4x128x256 .bf16) : FVec Ideal S2x512x128 .f32 := fun y =>
  have h0 : (y 0 : ℕ) < 2 := (y 0).isLt
  have h1 : (y 1 : ℕ) < 512 := (y 1).isLt
  have h2 : (y 2 : ℕ) < 128 := (y 2).isLt
  x (ix3 ⟨(y 1 : ℕ) % 4, by omega⟩ ⟨(y 1 : ℕ) / 4, by omega⟩ ⟨(y 0 : ℕ) * 128 + y 2, by omega⟩)

/-- The first step of dilation 16: the classes with the same remainder by 4 are interleaved, and lie one after the other. -/
def steps16 (x : FVec Ideal S16x32x256 .bf16) : FVec Ideal S2x512x128 .f32 := fun y =>
  have h0 : (y 0 : ℕ) < 2 := (y 0).isLt
  have h1 : (y 1 : ℕ) < 512 := (y 1).isLt
  have h2 : (y 2 : ℕ) < 128 := (y 2).isLt
  x (ix3 ⟨4 * ((y 1 : ℕ) % 4) + (y 1 : ℕ) / 128, by omega⟩ ⟨(y 1 : ℕ) % 128 / 4, by omega⟩ ⟨(y 0 : ℕ) * 128 + y 2, by omega⟩)

/-- Row `p` of the interleaved array of dilation 16 is row `p / 16` of the residue class `p % 16`. -/
def rows16 (x : FVec Ideal S16x32x256 .bf16) : FVec Ideal S2x512x128 .f32 := fun y =>
  have h0 : (y 0 : ℕ) < 2 := (y 0).isLt
  have h1 : (y 1 : ℕ) < 512 := (y 1).isLt
  have h2 : (y 2 : ℕ) < 128 := (y 2).isLt
  x (ix3 ⟨(y 1 : ℕ) % 16, by omega⟩ ⟨(y 1 : ℕ) / 16, by omega⟩ ⟨(y 0 : ℕ) * 128 + y 2, by omega⟩)

theorem same128 (v : FVec Ideal S1x128x128 .bf16) (j : S1x128x128.Idx) : k0_pay4 (F := Ideal) v j = v j := by
  pointwise [k0_pay4]

theorem same32 (v : FVec Ideal S1x32x128 .bf16) (j : S1x32x128.Idx) : k0_pay13 (F := Ideal) v j = v j := by
  pointwise [k0_pay13]

theorem again128 (v : FVec Ideal S1x128x128 .f32) (j : S1x128x128.Idx) : k0_pay57 (F := Ideal) v j = v j := by
  pointwise [k0_pay57]

/-- The rows of one half of one class, stored with stride 4 in the order of the class. -/
theorem piece4 (x : FVec Ideal S4x128x256 .bf16) (a r o : ℕ) (ho : o = a * 128) (inb) (inb') (sp) (hr : r < 4)
    (j : S1x128x128.Idx) :
    k0_pay4 (F := Ideal) (View.ld x (Rect.unit (s := S4x128x256) ![r, 0, o] ![1, 128, 128] inb)) j =
      rows4 x (({ off := ![a, r, 0], size := ![1, 128, 128], stride := ![1, 4, 1], inb := inb', stride_pos := sp } : Rect S2x512x128).emb j) := by
  subst ho
  refine (same128 _ j).trans (congrArg x (funext fun d => Fin.ext ?_))
  have h1 : (j 1 : ℕ) < 128 := (j 1).isLt
  have h0 : (j 0 : ℕ) < 1 := (j 0).isLt
  match d with
  | 0 => show r + 1 * (j 0 : ℕ) = (r + 4 * (j 1 : ℕ)) % 4; omega
  | 1 => show 0 + 1 * (j 1 : ℕ) = (r + 4 * (j 1 : ℕ)) / 4; omega
  | 2 => show a * 128 + 1 * (j 2 : ℕ) = (a + 1 * (j 0 : ℕ)) * 128 + (0 + 1 * (j 2 : ℕ)); omega

theorem step_row (r n : ℕ) (hr : r < 16) (hn : n < 32) :
    (r % 4 * 128 + r / 4 + 4 * n) % 4 = r / 4 ∧ (r % 4 * 128 + r / 4 + 4 * n) / 128 = r % 4 ∧
      (r % 4 * 128 + r / 4 + 4 * n) % 128 / 4 = n := by
  have h1 : r / 4 < 4 := by omega
  generalize r % 4 = a
  generalize r / 4 = b at h1
  have e : (a * 128 + b + 4 * n) % 128 = b + 4 * n := by omega
  refine ⟨by omega, by omega, by rw [e]; omega⟩

theorem quarter_row (r k : ℕ) (hr : r < 4) (hk : k < 128) :
    (r * 128 + k) % 4 = k % 4 ∧ (r * 128 + k) / 128 = r ∧ (r * 128 + k) % 128 = k ∧ (r + 4 * k) % 16 = r + 4 * (k % 4) ∧
      (r + 4 * k) / 16 = k / 4 := by
  refine ⟨by omega, by omega, by omega, by omega, by omega⟩

/-- The rows of one half of one class of dilation 16, stored where the first step lays them. -/
theorem step16 (x : FVec Ideal S16x32x256 .bf16) (a r q o : ℕ) (ho : o = a * 128)
    (hq : q = r % 4 * 128 + r / 4) (hr : r < 16) (inb) (inb') (sp) (j : S1x32x128.Idx) :
    k0_pay13 (F := Ideal) (View.ld x (Rect.unit (s := S16x32x256) ![r, 0, o] ![1, 32, 128] inb)) j =
      steps16 x (({ off := ![a, q, 0], size := ![1, 32, 128], stride := ![1, 4, 1], inb := inb', stride_pos := sp } : Rect S2x512x128).emb j) := by
  subst ho
  subst hq
  refine (same32 _ j).trans (congrArg x (funext fun d => Fin.ext ?_))
  have h1 : (j 1 : ℕ) < 32 := (j 1).isLt
  have h0 : (j 0 : ℕ) < 1 := (j 0).isLt
  match d with
  | 0 => show r + 1 * (j 0 : ℕ) = 4 * ((r % 4 * 128 + r / 4 + 4 * (j 1 : ℕ)) % 4) + (r % 4 * 128 + r / 4 + 4 * (j 1 : ℕ)) / 128
         rw [(step_row r _ hr h1).1, (step_row r _ hr h1).2.1]; omega
  | 1 => show 0 + 1 * (j 1 : ℕ) = (r % 4 * 128 + r / 4 + 4 * (j 1 : ℕ)) % 128 / 4
         rw [(step_row r _ hr h1).2.2]; omega
  | 2 => show a * 128 + 1 * (j 2 : ℕ) = (a + 1 * (j 0 : ℕ)) * 128 + (0 + 1 * (j 2 : ℕ)); omega

/-- A quarter of the first step's rows, stored with stride 4 in their order. -/
theorem piece16 (x : FVec Ideal S16x32x256 .bf16) (a r o : ℕ) (inb) (inb') (sp) (v : View sig .tc .vmem S2x512x128 .f32)
    (L : List (View.Piece (Elt Ideal) S2x512x128 .f32)) (j : S1x128x128.Idx) (ho : o = r * 128) (hr : r < 4)
    (h : View.PiecesOf (Val := Elt Ideal) (e := .f32) (steps16 x) (L.take 32)) (hc : rowsCovered ((L.take 32).map Sigma.fst) = true) :
    k0_pay57 (F := Ideal) (v.readCov L (Rect.unit (s := S2x512x128) ![a, o, 0] ![1, 128, 128] inb).toLoadRect) j =
      rows16 x (({ off := ![a, r, 0], size := ![1, 128, 128], stride := ![1, 4, 1], inb := inb', stride_pos := sp } : Rect S2x512x128).emb j) := by
  subst ho
  rw [readCov_of 32 (steps16 x) v L _ h (cover_of_rows _ hc)]
  refine (again128 _ j).trans (congrArg x (funext fun d => Fin.ext ?_))
  have h1 : (j 1 : ℕ) < 128 := (j 1).isLt
  have h0 : (j 0 : ℕ) < 1 := (j 0).isLt
  match d with
  | 0 => show 4 * ((r * 128 + 1 * (j 1 : ℕ)) % 4) + (r * 128 + 1 * (j 1 : ℕ)) / 128 = (r + 4 * (j 1 : ℕ)) % 16
         obtain ⟨e1, e2, -, e4, -⟩ := quarter_row r _ hr h1
         rw [Nat.one_mul, e1, e2, e4]; omega
  | 1 => show (r * 128 + 1 * (j 1 : ℕ)) % 128 / 4 = (r + 4 * (j 1 : ℕ)) / 16
         obtain ⟨-, -, e3, -, e5⟩ := quarter_row r _ hr h1
         rw [Nat.one_mul, e3, e5]
  | 2 => rfl

/-! ## The block of the projection's cotangent -/

/-- The sum of the three dilations' parts at row `p` and column `l` of a block. -/
def mix (x1 : FVec Ideal S1x512x256 .bf16) (x4 : FVec Ideal S4x128x256 .bf16) (x16 : FVec Ideal S16x32x256 .bf16)
    (p : Fin 512) (l : Fin 256) : EReal :=
  x1 (ix3 0 p l) + x4 (ix3 ⟨(p : ℕ) % 4, by omega⟩ ⟨(p : ℕ) / 4, by omega⟩ l) +
    x16 (ix3 ⟨(p : ℕ) % 16, by omega⟩ ⟨(p : ℕ) / 16, by omega⟩ l)

/-- What a load of half `a` of a scratch is, where the scratch holds `G`. -/
abbrev half (G : FVec Ideal S2x512x128 .f32) (a : Fin 2) : FVec Ideal S1x512x128 .f32 := fun j => G (ix3 a (j 1) (j 2))

theorem mix_at (x1 : FVec Ideal S1x512x256 .bf16) (x4 : FVec Ideal S4x128x256 .bf16) (x16 : FVec Ideal S16x32x256 .bf16) (p : Fin 512) (l : Fin 256) :
    k0_pay58 (F := Ideal) x1 (half (rows4 x4) 0) (half (rows4 x4) 1) (half (rows16 x16) 0) (half (rows16 x16) 1) (ix2 p l) = mix x1 x4 x16 p l := by
  pointwise [k0_pay58, mix]
  have hl := l.isLt
  split
  · next h =>
    refine congr (congrArg _ (congrArg _ (congrArg x4 ?_))) (congrArg x16 ?_) <;>
      exact congrArg _ (Fin.ext (by show 0 * 128 + (l : ℕ) = l; omega))
  · next h =>
    refine congr (congrArg _ (congrArg _ (congrArg x4 ?_))) (congrArg x16 ?_) <;>
      exact congrArg _ (Fin.ext (by show 1 * 128 + ((l : ℕ) - 128) = l; omega))

/-- The block of the projection's cotangent: the state's columns, the three sums, and the gate's columns. -/
def dzBlk (x3 : FVec Ideal S512x2304 .f32) (q k v : Fin 512 → Fin 256 → EReal) (x13 : FVec Ideal S512x256 .f32) : FVec Ideal S512x3328 .bf16 := fun y =>
  have h1 : (y 1 : ℕ) < 3328 := (y 1).isLt
  if h : (y 1 : ℕ) < 2304 then x3 (ix2 (y 0) ⟨y 1, h⟩)
  else if h' : (y 1 : ℕ) < 2560 then q (y 0) ⟨(y 1 : ℕ) - 2304, by omega⟩
  else if h' : (y 1 : ℕ) < 2816 then k (y 0) ⟨(y 1 : ℕ) - 2560, by omega⟩
  else if h' : (y 1 : ℕ) < 3072 then v (y 0) ⟨(y 1 : ℕ) - 2816, by omega⟩
  else x13 (ix2 (y 0) ⟨(y 1 : ℕ) - 3072, by omega⟩)

theorem read_half (n : ℕ) (G : FVec Ideal S2x512x128 .f32) (a : Fin 2) (o : ℕ) (ho : o = a) (inb)
    (v : View sig .tc .vmem S2x512x128 .f32) (L : List (View.Piece (Elt Ideal) S2x512x128 .f32))
    (h : View.PiecesOf (Val := Elt Ideal) (e := .f32) G (L.take n)) (hc : rowsCovered ((L.take n).map Sigma.fst) = true) :
    v.readCov L (Rect.unit (s := S2x512x128) ![o, 0, 0] ![1, 512, 128] inb).toLoadRect = half G a := by
  subst ho
  rw [readCov_of n G v L _ h (cover_of_rows _ hc)]
  funext j
  refine congrArg G (funext fun d => Fin.ext ?_)
  have h0 : (j 0 : ℕ) < 1 := (j 0).isLt
  match d with
  | 0 => show (a : ℕ) + 1 * (j 0 : ℕ) = a; omega
  | 1 => show 0 + 1 * (j 1 : ℕ) = j 1; omega
  | 2 => show 0 + 1 * (j 2 : ℕ) = j 2; omega

theorem exists_ix2 {n k : ℕ} (x : (⟨2, ![n, k]⟩ : Shape).Idx) : ∃ (a : Fin n) (b : Fin k), x = ix2 a b :=
  ⟨x 0, x 1, funext fun d => match d with | 0 => rfl | 1 => rfl⟩

theorem gate_at (v : FVec Ideal S512x256 .f32) (x : S512x256.Idx) : k0_pay171 (F := Ideal) v x = v (ix2 (x 0) (x 1)) := by
  obtain ⟨a, b, rfl⟩ := exists_ix2 x
  pointwise [k0_pay171]

theorem state_at (v : FVec Ideal S512x2304 .f32) (x : S512x2304.Idx) : k0_pay3 (F := Ideal) v x = v (ix2 (x 0) (x 1)) := by
  obtain ⟨a, b, rfl⟩ := exists_ix2 x
  pointwise [k0_pay3]

variable (x1 : FVec Ideal S1x512x256 .bf16) (x4 : FVec Ideal S4x128x256 .bf16) (x16 : FVec Ideal S16x32x256 .bf16)

theorem query_mix_at (x : S512x256.Idx) :
    k0_pay58 (F := Ideal) x1 (half (rows4 x4) 0) (half (rows4 x4) 1) (half (rows16 x16) 0) (half (rows16 x16) 1) x = mix x1 x4 x16 (x 0) (x 1) := by
  obtain ⟨a, b, rfl⟩ := exists_ix2 x
  exact mix_at x1 x4 x16 a b

theorem key_mix_at (x : S512x256.Idx) :
    k0_pay114 (F := Ideal) x1 (half (rows4 x4) 0) (half (rows4 x4) 1) (half (rows16 x16) 0) (half (rows16 x16) 1) x = mix x1 x4 x16 (x 0) (x 1) :=
  query_mix_at x1 x4 x16 x

theorem value_mix_at (x : S512x256.Idx) :
    k0_pay170 (F := Ideal) (k0_pay168 x1 (half (rows4 x4) 0) (half (rows4 x4) 1)) (k0_pay169 (half (rows16 x16) 0)) (half (rows16 x16) 1) x =
      mix x1 x4 x16 (x 0) (x 1) :=
  query_mix_at x1 x4 x16 x

theorem dz_of (x3 : FVec Ideal S512x2304 .f32) (x4 x5 x6 : FVec Ideal S1x512x256 .bf16) (x7 x8 x9 : FVec Ideal S4x128x256 .bf16)
    (x10 x11 x12 : FVec Ideal S16x32x256 .bf16) (x13 : FVec Ideal S512x256 .f32) (i0 i1 i2 i3 i4) (y : S512x3328.Idx) :
    View.canon (Val := Elt Ideal) (e := .bf16) [⟨Rect.unit (s := S512x3328) ![0, 3072] ![512, 256] i0, k0_pay171 (F := Ideal) x13⟩,
      ⟨Rect.unit (s := S512x3328) ![0, 2816] ![512, 256] i1, k0_pay170 (F := Ideal) (k0_pay168 x6 (half (rows4 x9) 0) (half (rows4 x9) 1)) (k0_pay169 (half (rows16 x12) 0)) (half (rows16 x12) 1)⟩,
      ⟨Rect.unit (s := S512x3328) ![0, 2560] ![512, 256] i2, k0_pay114 (F := Ideal) x5 (half (rows4 x8) 0) (half (rows4 x8) 1) (half (rows16 x11) 0) (half (rows16 x11) 1)⟩,
      ⟨Rect.unit (s := S512x3328) ![0, 2304] ![512, 256] i3, k0_pay58 (F := Ideal) x4 (half (rows4 x7) 0) (half (rows4 x7) 1) (half (rows16 x10) 0) (half (rows16 x10) 1)⟩,
      ⟨Rect.unit (s := S512x3328) ![0, 0] ![512, 2304] i4, k0_pay3 (F := Ideal) x3⟩] y =
    dzBlk x3 (mix x4 x7 x10) (mix x5 x8 x11) (mix x6 x9 x12) x13 y := by
  refine View.canon_apply_of_pieces (Val := Elt Ideal) (e := .bf16) (dzBlk x3 (mix x4 x7 x10) (mix x5 x8 x11) (mix x6 x9 x12) x13) _
    (View.PiecesOf.mem ?_) y ?_
  · refine ⟨fun x => ?_, fun x => ?_, fun x => ?_, fun x => ?_, fun x => ?_, trivial⟩
    · have hx : (x 1 : ℕ) < 256 := (x 1).isLt
      refine (gate_at x13 x).trans (Eq.trans ?_ ((dif_neg (show ¬ 3072 + 1 * (x 1 : ℕ) < 2304 by omega)).trans
        ((dif_neg (show ¬ 3072 + 1 * (x 1 : ℕ) < 2560 by omega)).trans ((dif_neg (show ¬ 3072 + 1 * (x 1 : ℕ) < 2816 by omega)).trans
          (dif_neg (show ¬ 3072 + 1 * (x 1 : ℕ) < 3072 by omega))))).symm)
      exact congrArg₂ (fun a b => x13 (ix2 a b)) (Fin.ext (by show (x 0 : ℕ) = 0 + 1 * (x 0 : ℕ); omega))
        (Fin.ext (by show (x 1 : ℕ) = 3072 + 1 * (x 1 : ℕ) - 3072; omega))
    · have hx : (x 1 : ℕ) < 256 := (x 1).isLt
      refine (value_mix_at x6 x9 x12 x).trans (Eq.trans ?_ ((dif_neg (show ¬ 2816 + 1 * (x 1 : ℕ) < 2304 by omega)).trans
        ((dif_neg (show ¬ 2816 + 1 * (x 1 : ℕ) < 2560 by omega)).trans ((dif_neg (show ¬ 2816 + 1 * (x 1 : ℕ) < 2816 by omega)).trans
          (dif_pos (show 2816 + 1 * (x 1 : ℕ) < 3072 by omega))))).symm)
      exact congrArg₂ (mix x6 x9 x12) (Fin.ext (by show (x 0 : ℕ) = 0 + 1 * (x 0 : ℕ); omega))
        (Fin.ext (by show (x 1 : ℕ) = 2816 + 1 * (x 1 : ℕ) - 2816; omega))
    · have hx : (x 1 : ℕ) < 256 := (x 1).isLt
      refine (key_mix_at x5 x8 x11 x).trans (Eq.trans ?_ ((dif_neg (show ¬ 2560 + 1 * (x 1 : ℕ) < 2304 by omega)).trans
        ((dif_neg (show ¬ 2560 + 1 * (x 1 : ℕ) < 2560 by omega)).trans (dif_pos (show 2560 + 1 * (x 1 : ℕ) < 2816 by omega)))).symm)
      exact congrArg₂ (mix x5 x8 x11) (Fin.ext (by show (x 0 : ℕ) = 0 + 1 * (x 0 : ℕ); omega))
        (Fin.ext (by show (x 1 : ℕ) = 2560 + 1 * (x 1 : ℕ) - 2560; omega))
    · have hx : (x 1 : ℕ) < 256 := (x 1).isLt
      refine (query_mix_at x4 x7 x10 x).trans (Eq.trans ?_ ((dif_neg (show ¬ 2304 + 1 * (x 1 : ℕ) < 2304 by omega)).trans
        (dif_pos (show 2304 + 1 * (x 1 : ℕ) < 2560 by omega))).symm)
      exact congrArg₂ (mix x4 x7 x10) (Fin.ext (by show (x 0 : ℕ) = 0 + 1 * (x 0 : ℕ); omega))
        (Fin.ext (by show (x 1 : ℕ) = 2304 + 1 * (x 1 : ℕ) - 2304; omega))
    · have hx : (x 1 : ℕ) < 2304 := (x 1).isLt
      refine (state_at x3 x).trans (Eq.trans ?_ (dif_pos (show 0 + 1 * (x 1 : ℕ) < 2304 by omega)).symm)
      exact congrArg₂ (fun a b => x3 (ix2 a b)) (Fin.ext (by show (x 0 : ℕ) = 0 + 1 * (x 0 : ℕ); omega))
        (Fin.ext (by show (x 1 : ℕ) = 0 + 1 * (x 1 : ℕ); omega))
  · exact View.cover_of_tiledBy _ ![512, 256] (by sl_kernel_rfl) y

theorem dz_read (v : View sig .tc .vmem S512x3328 .bf16) (x3 : FVec Ideal S512x2304 .f32) (x4 x5 x6 : FVec Ideal S1x512x256 .bf16)
    (x7 x8 x9 : FVec Ideal S4x128x256 .bf16) (x10 x11 x12 : FVec Ideal S16x32x256 .bf16) (x13 : FVec Ideal S512x256 .f32)
    (q0 q1 q2 q3 k0 k1 k2 k3 v0 v1 v2 v3 : FVec Ideal S1x512x128 .f32) (i0 i1 i2 i3 i4 i5)
    (hq0 : q0 = half (rows4 x7) 0) (hq1 : q1 = half (rows4 x7) 1) (hq2 : q2 = half (rows16 x10) 0) (hq3 : q3 = half (rows16 x10) 1)
    (hk0 : k0 = half (rows4 x8) 0) (hk1 : k1 = half (rows4 x8) 1) (hk2 : k2 = half (rows16 x11) 0) (hk3 : k3 = half (rows16 x11) 1)
    (hv0 : v0 = half (rows4 x9) 0) (hv1 : v1 = half (rows4 x9) 1) (hv2 : v2 = half (rows16 x12) 0) (hv3 : v3 = half (rows16 x12) 1) :
    v.readCov (Val := Elt Ideal) [⟨Rect.unit (s := S512x3328) ![0, 3072] ![512, 256] i0, k0_pay171 (F := Ideal) x13⟩,
      ⟨Rect.unit (s := S512x3328) ![0, 2816] ![512, 256] i1, k0_pay170 (F := Ideal) (k0_pay168 x6 v0 v1) (k0_pay169 v2) v3⟩,
      ⟨Rect.unit (s := S512x3328) ![0, 2560] ![512, 256] i2, k0_pay114 (F := Ideal) x5 k0 k1 k2 k3⟩,
      ⟨Rect.unit (s := S512x3328) ![0, 2304] ![512, 256] i3, k0_pay58 (F := Ideal) x4 q0 q1 q2 q3⟩,
      ⟨Rect.unit (s := S512x3328) ![0, 0] ![512, 2304] i4, k0_pay3 (F := Ideal) x3⟩]
      (Rect.unit (s := S512x3328) ![0, 0] ![512, 3328] i5).toLoadRect =
    dzBlk x3 (mix x4 x7 x10) (mix x5 x8 x11) (mix x6 x9 x12) x13 := by
  subst hq0 hq1 hq2 hq3 hk0 hk1 hk2 hk3 hv0 hv1 hv2 hv3
  rw [View.readCov_eq_canon']
  funext j
  rw [dz_of]
  refine congrArg _ (funext fun d => Fin.ext ?_)
  match d with
  | 0 => show 0 + 1 * (j 0 : ℕ) = j 0; omega
  | 1 => show 0 + 1 * (j 1 : ℕ) = j 1; omega

end Cert.Kernel3Ideal.Inproj

end
-- ==== Proof.InprojOuts.lean ====
/- What one grid point of the input projection's backward call leaves in the blocks of its results. -/
module

public import proofs.«01_k».proof.Proof.InprojRows
public import proofs.«01_k».proof.Proof.Gen.Kernel3Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.Inproj

open Idealize.ShloMosaic Idealize.ShloMosaic.TcCoe Idealize.SL.Sem
open Cert.Kernel3Ideal Cert.Kernel3Ideal.Gen

variable (m : (ℓ : Loc nD τ sig) → Buf (Elt Ideal) ℓ)

/-- The block of the projection's cotangent at grid point `t`. -/
def dzAt (c : Dev nD) (t : Fin cfg0.N) : FVec Ideal S512x3328 .bf16 :=
  dzBlk (iblk m c 3 t) (mix (iblk m c 4 t) (iblk m c 7 t) (iblk m c 10 t)) (mix (iblk m c 5 t) (iblk m c 8 t) (iblk m c 11 t))
    (mix (iblk m c 6 t) (iblk m c 9 t) (iblk m c 12 t)) (iblk m c 13 t)

/-- The cotangent of the normalised rows at grid point `t`. -/
abbrev dhAt (c : Dev nD) (t : Fin cfg0.N) : FVec Ideal S512x1024 .f32 := k0_pay172 (F := Ideal) (dzAt m c t) (iblk m c 14 t)

set_option maxHeartbeats 8000000 in
/-- The blocks of the input's and of the norm weight's gradient, the latter from what the point before left. -/
theorem outs (c : Dev nD) (t : Fin cfg0.N) :
    (∀ y, (outsAt0 (F := Ideal) m c t.val t.isLt).1 y =
      k0_pay1 (F := Ideal) (k0_pay173 (iblk m c 0 t)) (k0_pay178 (dhAt m c t) (k0_pay175 (iblk m c 1 t))) (iblk m c 2 t)
        (k0_pay179 (dhAt m c t) (k0_pay174 (iblk m c 0 t)) (k0_pay175 (iblk m c 1 t))) y) ∧
    (t.val % 16 = 0 → ∀ y, (outsAt0 (F := Ideal) m c t.val t.isLt).2.2.2 y =
      k0_pay177 (F := Ideal) (dhAt m c t) (k0_pay174 (iblk m c 0 t)) (k0_pay2 (F := Ideal)) y) ∧
    (¬ t.val % 16 = 0 → ∀ y, (outsAt0 (F := Ideal) m c t.val t.isLt).2.2.2 y =
      k0_pay177 (F := Ideal) (dhAt m c t) (k0_pay174 (iblk m c 0 t))
        (outsAt0 (F := Ideal) m c (t.val - 1) (Nat.lt_of_le_of_lt (Nat.sub_le _ _) t.isLt)).2.2.2 y) := by
  have hA := outsAt0_A m c t
  have hB := outsAt0_B m c t
  unfold dhAt dzAt
  obtain ⟨x0, e0⟩ : ∃ x : FVec Ideal S512x1024 .f32, x = iblk m c 0 t := ⟨_, rfl⟩
  obtain ⟨x1, e1⟩ : ∃ x : FVec Ideal S1x1024 .f32, x = iblk m c 1 t := ⟨_, rfl⟩
  obtain ⟨x2, e2⟩ : ∃ x : FVec Ideal S512x1024 .f32, x = iblk m c 2 t := ⟨_, rfl⟩
  obtain ⟨x3, e3⟩ : ∃ x : FVec Ideal S512x2304 .f32, x = iblk m c 3 t := ⟨_, rfl⟩
  obtain ⟨x4, e4⟩ : ∃ x : FVec Ideal S1x512x256 .bf16, x = iblk m c 4 t := ⟨_, rfl⟩
  obtain ⟨x5, e5⟩ : ∃ x : FVec Ideal S1x512x256 .bf16, x = iblk m c 5 t := ⟨_, rfl⟩
  obtain ⟨x6, e6⟩ : ∃ x : FVec Ideal S1x512x256 .bf16, x = iblk m c 6 t := ⟨_, rfl⟩
  obtain ⟨x7, e7⟩ : ∃ x : FVec Ideal S4x128x256 .bf16, x = iblk m c 7 t := ⟨_, rfl⟩
  obtain ⟨x8, e8⟩ : ∃ x : FVec Ideal S4x128x256 .bf16, x = iblk m c 8 t := ⟨_, rfl⟩
  obtain ⟨x9, e9⟩ : ∃ x : FVec Ideal S4x128x256 .bf16, x = iblk m c 9 t := ⟨_, rfl⟩
  obtain ⟨x10, e10⟩ : ∃ x : FVec Ideal S16x32x256 .bf16, x = iblk m c 10 t := ⟨_, rfl⟩
  obtain ⟨x11, e11⟩ : ∃ x : FVec Ideal S16x32x256 .bf16, x = iblk m c 11 t := ⟨_, rfl⟩
  obtain ⟨x12, e12⟩ : ∃ x : FVec Ideal S16x32x256 .bf16, x = iblk m c 12 t := ⟨_, rfl⟩
  obtain ⟨x13, e13⟩ : ∃ x : FVec Ideal S512x256 .f32, x = iblk m c 13 t := ⟨_, rfl⟩
  obtain ⟨x14, e14⟩ : ∃ x : FVec Ideal S3328x1024 .bf16, x = iblk m c 14 t := ⟨_, rfl⟩
  rw [← e0, ← e1, ← e2, ← e3, ← e4, ← e5, ← e6, ← e7, ← e8, ← e9, ← e10, ← e11, ← e12, ← e13, ← e14] at hA hB ⊢
  clear e0 e1 e2 e3 e4 e5 e6 e7 e8 e9 e10 e11 e12 e13 e14
  generalize (outsAt0 (F := Ideal) m c (t.val - 1) (Nat.lt_of_le_of_lt (Nat.sub_le _ _) t.isLt)).2.2.2 = acc at hB ⊢
  obtain ⟨D, hD, h1, h2, h3, h4⟩ : ∃ D : FVec Ideal S512x3328 .bf16, D = dzBlk x3 (mix x4 x7 x10) (mix x5 x8 x11) (mix x6 x9 x12) x13 ∧
    (t.val % 16 = 0 → ∀ y, (outsAt0 (F := Ideal) m c t.val t.isLt).1 y = k0_pay1 (F := Ideal) (k0_pay173 x0)
        (k0_pay178 (k0_pay172 (F := Ideal) D x14) (k0_pay175 x1)) x2 (k0_pay179 (k0_pay172 (F := Ideal) D x14) (k0_pay174 x0) (k0_pay175 x1)) y) ∧
    (t.val % 16 = 0 → ∀ y, (outsAt0 (F := Ideal) m c t.val t.isLt).2.2.2 y =
        k0_pay177 (F := Ideal) (k0_pay172 (F := Ideal) D x14) (k0_pay174 x0) (k0_pay2 (F := Ideal)) y) ∧
    (¬ t.val % 16 = 0 → ∀ y, (outsAt0 (F := Ideal) m c t.val t.isLt).1 y = k0_pay1 (F := Ideal) (k0_pay173 x0)
        (k0_pay178 (k0_pay172 (F := Ideal) D x14) (k0_pay175 x1)) x2 (k0_pay179 (k0_pay172 (F := Ideal) D x14) (k0_pay174 x0) (k0_pay175 x1)) y) ∧
    (¬ t.val % 16 = 0 → ∀ y, (outsAt0 (F := Ideal) m c t.val t.isLt).2.2.2 y =
        k0_pay177 (F := Ideal) (k0_pay172 (F := Ideal) D x14) (k0_pay174 x0) acc y) := by
    refine ⟨?D, ?hD, fun h0 y => ?_, fun h0 y => ?_, fun h0 y => ?_, fun h0 y => ?_⟩
    rotate_left 2
    · rw [hA h0]
      frame_out
      rfl
    · rw [hA h0]
      frame_out
    · rw [hB h0]
      frame_out
    · rw [hB h0]
      frame_out
    · clear hA hB x0 x1 x2 x14 acc
      refine dz_read _ x3 x4 x5 x6 x7 x8 x9 x10 x11 x12 x13 _ _ _ _ _ _ _ _ _ _ _ _ _ _ _ _ _ _ ?_ ?_ ?_ ?_ ?_ ?_ ?_ ?_ ?_ ?_ ?_ ?_
      iterate 3
        iterate 2
          · refine read_half 8 (rows4 _) _ _ ?_ _ _ _ ?_ ?_
            · rfl
            · iterate 8 refine ⟨fun j => piece4 _ _ _ _ (by rfl) _ _ _ (by decide) j, ?_⟩
              exact trivial
            · sl_kernel_rfl
        iterate 2
          · refine read_half 8 (rows16 _) _ _ ?_ _ _ _ ?_ ?_
            · rfl
            · iterate 8
                refine ⟨fun j => ?_, ?_⟩
                · dsimp only
                  generalize hL : List.cons _ _ = L
                  refine piece16 _ _ _ _ _ _ _ (View.whole cc0_scratch2) L j ?_ ?_ ?_ ?_ <;> clear j
                  · rfl
                  · decide
                  · subst hL
                    iterate 32 refine ⟨fun j => step16 _ _ _ _ _ (by rfl) (by rfl) (by decide) _ _ _ j, ?_⟩
                    exact trivial
                  · subst hL
                    sl_kernel_rfl
              exact trivial
            · sl_kernel_rfl
  subst hD
  refine ⟨fun y => ?_, h2, h4⟩
  by_cases h0 : t.val % 16 = 0
  · exact h1 h0 y
  · exact h3 h0 y

end Cert.Kernel3Ideal.Inproj

end
-- ==== Proof.InprojBlocks.lean ====
/- The blocks that the input projection's backward call is given, in the program's own arguments. -/
module

public import proofs.«01_k».proof.Proof.Gen.Kernel3Ideal.Frame
public import Idealize.ShloMosaic.Lib.Pipeline.ValueKit
public import Idealize.ShloMosaic.Lib.Pipeline.ReadBack
public import Idealize.ShloMosaic.Lib.Pointwise

@[expose] public section

noncomputable section

namespace Cert.Kernel3Ideal.Inproj

open Idealize.ShloMosaic Idealize.ShloMosaic.TcCoe Idealize.SL.Sem
open Cert.Kernel3Ideal Cert.Kernel3Ideal.Gen

variable (m : (ℓ : Loc nD τ sig) → Buf (Elt Ideal) ℓ)

theorem idx : ∀ t : Fin cfg0.N,
    win0_0.index t = ![t.val, 0] ∧ win0_1.index t = ![0, 0] ∧ win0_2.index t = ![t.val, 0] ∧ win0_3.index t = ![t.val, 0] ∧
    win0_4.index t = ![0, t.val, 0] ∧ win0_5.index t = ![0, t.val, 0] ∧ win0_6.index t = ![0, t.val, 0] ∧
    win0_7.index t = ![0, t.val, 0] ∧ win0_8.index t = ![0, t.val, 0] ∧ win0_9.index t = ![0, t.val, 0] ∧
    win0_10.index t = ![0, t.val, 0] ∧ win0_11.index t = ![0, t.val, 0] ∧ win0_12.index t = ![0, t.val, 0] ∧
    win0_13.index t = ![t.val, 0] ∧ win0_14.index t = ![0, 0] ∧ win0_15.index t = ![t.val, 0] ∧ win0_18.index t = ![0, 0] :=
  (by decide +kernel : ∀ t : Fin grid0.N, _)

theorem lt16 (t : Fin cfg0.N) : t.val < 16 := t.isLt

/-- The position of row `p` of the block of point `t`. -/
def row (t : Fin cfg0.N) (p : Fin 512) : Fin 8192 := ⟨512 * t.val + p, by have := lt16 t; omega⟩

theorem x_at (c : Dev nD) (t : Fin cfg0.N) (p : Fin 512) (j : Fin 1024) :
    (show FVec Ideal S512x1024 .f32 from iblk m c 0 t) (ix2 p j) =
      (show FVec Ideal S8192x1024 .f32 from m ((c : Thread nD τ).loc main_arg0)) (ix2 (row t p) j) := by
  blk_point [iblk, V, idx t, row]

theorem a_at (c : Dev nD) (t : Fin cfg0.N) (p : Fin 512) (j : Fin 1024) :
    (show FVec Ideal S512x1024 .f32 from iblk m c 2 t) (ix2 p j) =
      (show FVec Ideal S8192x1024 .f32 from m ((c : Thread nD τ).loc main_arg3)) (ix2 (row t p) j) := by
  blk_point [iblk, V, idx t, row]

theorem abc_at (c : Dev nD) (t : Fin cfg0.N) (p : Fin 512) (j : Fin 2304) :
    (show FVec Ideal S512x2304 .f32 from iblk m c 3 t) (ix2 p j) =
      (show FVec Ideal S8192x2304 .f32 from m ((c : Thread nD τ).loc main_arg4)) (ix2 (row t p) j) := by
  blk_point [iblk, V, idx t, row]

theorem gateBlk_at (c : Dev nD) (t : Fin cfg0.N) (p : Fin 512) (j : Fin 256) :
    (show FVec Ideal S512x256 .f32 from iblk m c 13 t) (ix2 p j) =
      (show FVec Ideal S8192x256 .f32 from m ((c : Thread nD τ).loc main_arg14)) (ix2 (row t p) j) := by
  blk_point [iblk, V, idx t, row]

theorem g_at (c : Dev nD) (t : Fin cfg0.N) (j : Fin 1024) :
    (show FVec Ideal S1x1024 .f32 from iblk m c 1 t) (ix2 0 j) =
      (show FVec Ideal S1024 .f32 from m ((c : Thread nD τ).loc main_arg1)) (ix1 j) := by
  blk_point [iblk, V, idx t, row]

theorem V_w (c : Dev nD) : V m c main_v29 = truncf .bf16 (transpose S3328x1024 [1, 0] (show FVec Ideal S1024x3328 .f32 from m ((c : Thread nD τ).loc main_arg2)) transposes_S1024x3328_S3328x1024_1_0) bitsLt_bf16_f32 := by
  entry_read
  rfl

theorem w_at (c : Dev nD) (t : Fin cfg0.N) (k : Fin 3328) (j : Fin 1024) :
    (show FVec Ideal S3328x1024 .bf16 from iblk m c 14 t) (ix2 k j) =
      (show FVec Ideal S1024x3328 .f32 from m ((c : Thread nD τ).loc main_arg2)) (ix2 j k) := by
  have e : (show FVec Ideal S3328x1024 .bf16 from iblk m c 14 t) (ix2 k j) = (show FVec Ideal S3328x1024 .bf16 from V m c main_v29) (ix2 k j) := by
    blk_point [iblk, idx t]
  rw [e, V_w]
  pointwise

/-- An array's rows, those of every `1`-th position together. -/
def lay1 (x : FVec Ideal S8192x256 .f32) : FVec Ideal S1x8192x256 .bf16 :=
  truncf .bf16 (transpose S1x8192x256 [1, 0, 2] (shapeCast S8192x1x256 x shapeCasts_S8192x256_S8192x1x256) transposes_S8192x1x256_S1x8192x256_1_0_2) bitsLt_bf16_f32

theorem lay1_at (x : FVec Ideal S8192x256 .f32) (r : Fin 1) (n : Fin 8192) (l : Fin 256) :
    lay1 x (ix3 r n l) = x (ix2 ⟨n * 1 + r, by omega⟩ l) := by
  unfold lay1
  pointwise

/-- An array's rows, those of every `4`-th position together. -/
def lay4 (x : FVec Ideal S8192x256 .f32) : FVec Ideal S4x2048x256 .bf16 :=
  truncf .bf16 (transpose S4x2048x256 [1, 0, 2] (shapeCast S2048x4x256 x shapeCasts_S8192x256_S2048x4x256) transposes_S2048x4x256_S4x2048x256_1_0_2) bitsLt_bf16_f32

theorem lay4_at (x : FVec Ideal S8192x256 .f32) (r : Fin 4) (n : Fin 2048) (l : Fin 256) :
    lay4 x (ix3 r n l) = x (ix2 ⟨n * 4 + r, by omega⟩ l) := by
  unfold lay4
  pointwise

/-- An array's rows, those of every `16`-th position together. -/
def lay16 (x : FVec Ideal S8192x256 .f32) : FVec Ideal S16x512x256 .bf16 :=
  truncf .bf16 (transpose S16x512x256 [1, 0, 2] (shapeCast S512x16x256 x shapeCasts_S8192x256_S512x16x256) transposes_S512x16x256_S16x512x256_1_0_2) bitsLt_bf16_f32

theorem lay16_at (x : FVec Ideal S8192x256 .f32) (r : Fin 16) (n : Fin 512) (l : Fin 256) :
    lay16 x (ix3 r n l) = x (ix2 ⟨n * 16 + r, by omega⟩ l) := by
  unfold lay16
  pointwise

theorem q1_at (c : Dev nD) (t : Fin cfg0.N) (r : Fin 1) (n : Fin 512) (l : Fin 256) :
    (show FVec Ideal S1x512x256 .bf16 from iblk m c 4 t) (ix3 r n l) =
      lay1 (m ((c : Thread nD τ).loc main_arg5)) (ix3 r ⟨512 * t.val + n, by have := lt16 t; omega⟩ l) := by
  have e : V m c main_v2 = lay1 (m ((c : Thread nD τ).loc main_arg5)) := by
    entry_read
    rfl
  rw [← e]
  blk_point [iblk, idx t]

theorem k1_at (c : Dev nD) (t : Fin cfg0.N) (r : Fin 1) (n : Fin 512) (l : Fin 256) :
    (show FVec Ideal S1x512x256 .bf16 from iblk m c 5 t) (ix3 r n l) =
      lay1 (m ((c : Thread nD τ).loc main_arg6)) (ix3 r ⟨512 * t.val + n, by have := lt16 t; omega⟩ l) := by
  have e : V m c main_v5 = lay1 (m ((c : Thread nD τ).loc main_arg6)) := by
    entry_read
    rfl
  rw [← e]
  blk_point [iblk, idx t]

theorem v1_at (c : Dev nD) (t : Fin cfg0.N) (r : Fin 1) (n : Fin 512) (l : Fin 256) :
    (show FVec Ideal S1x512x256 .bf16 from iblk m c 6 t) (ix3 r n l) =
      lay1 (m ((c : Thread nD τ).loc main_arg7)) (ix3 r ⟨512 * t.val + n, by have := lt16 t; omega⟩ l) := by
  have e : V m c main_v8 = lay1 (m ((c : Thread nD τ).loc main_arg7)) := by
    entry_read
    rfl
  rw [← e]
  blk_point [iblk, idx t]

theorem q4_at (c : Dev nD) (t : Fin cfg0.N) (r : Fin 4) (n : Fin 128) (l : Fin 256) :
    (show FVec Ideal S4x128x256 .bf16 from iblk m c 7 t) (ix3 r n l) =
      lay4 (m ((c : Thread nD τ).loc main_arg8)) (ix3 r ⟨128 * t.val + n, by have := lt16 t; omega⟩ l) := by
  have e : V m c main_v11 = lay4 (m ((c : Thread nD τ).loc main_arg8)) := by
    entry_read
    rfl
  rw [← e]
  blk_point [iblk, idx t]

theorem k4_at (c : Dev nD) (t : Fin cfg0.N) (r : Fin 4) (n : Fin 128) (l : Fin 256) :
    (show FVec Ideal S4x128x256 .bf16 from iblk m c 8 t) (ix3 r n l) =
      lay4 (m ((c : Thread nD τ).loc main_arg9)) (ix3 r ⟨128 * t.val + n, by have := lt16 t; omega⟩ l) := by
  have e : V m c main_v14 = lay4 (m ((c : Thread nD τ).loc main_arg9)) := by
    entry_read
    rfl
  rw [← e]
  blk_point [iblk, idx t]

theorem v4_at (c : Dev nD) (t : Fin cfg0.N) (r : Fin 4) (n : Fin 128) (l : Fin 256) :
    (show FVec Ideal S4x128x256 .bf16 from iblk m c 9 t) (ix3 r n l) =
      lay4 (m ((c : Thread nD τ).loc main_arg10)) (ix3 r ⟨128 * t.val + n, by have := lt16 t; omega⟩ l) := by
  have e : V m c main_v17 = lay4 (m ((c : Thread nD τ).loc main_arg10)) := by
    entry_read
    rfl
  rw [← e]
  blk_point [iblk, idx t]

theorem q16_at (c : Dev nD) (t : Fin cfg0.N) (r : Fin 16) (n : Fin 32) (l : Fin 256) :
    (show FVec Ideal S16x32x256 .bf16 from iblk m c 10 t) (ix3 r n l) =
      lay16 (m ((c : Thread nD τ).loc main_arg11)) (ix3 r ⟨32 * t.val + n, by have := lt16 t; omega⟩ l) := by
  have e : V m c main_v20 = lay16 (m ((c : Thread nD τ).loc main_arg11)) := by
    entry_read
    rfl
  rw [← e]
  blk_point [iblk, idx t]

theorem k16_at (c : Dev nD) (t : Fin cfg0.N) (r : Fin 16) (n : Fin 32) (l : Fin 256) :
    (show FVec Ideal S16x32x256 .bf16 from iblk m c 11 t) (ix3 r n l) =
      lay16 (m ((c : Thread nD τ).loc main_arg12)) (ix3 r ⟨32 * t.val + n, by have := lt16 t; omega⟩ l) := by
  have e : V m c main_v23 = lay16 (m ((c : Thread nD τ).loc main_arg12)) := by
    entry_read
    rfl
  rw [← e]
  blk_point [iblk, idx t]

theorem v16_at (c : Dev nD) (t : Fin cfg0.N) (r : Fin 16) (n : Fin 32) (l : Fin 256) :
    (show FVec Ideal S16x32x256 .bf16 from iblk m c 12 t) (ix3 r n l) =
      lay16 (m ((c : Thread nD τ).loc main_arg13)) (ix3 r ⟨32 * t.val + n, by have := lt16 t; omega⟩ l) := by
  have e : V m c main_v26 = lay16 (m ((c : Thread nD τ).loc main_arg13)) := by
    entry_read
    rfl
  rw [← e]
  blk_point [iblk, idx t]

end Cert.Kernel3Ideal.Inproj

end
-- ==== Proof.RowNorm.lean ====
/- The backward pass of a root-mean-square norm of one row, over the extended reals: the form that the kernel computes and
   the form that the reference's derivative has are equal, whatever the row holds. -/
module

public import Idealize.ShloMosaic.PureOps.Ideal

@[expose] public section

noncomputable section

namespace RowNorm

open Idealize.ShloMosaic

/-- A nonnegative real factor comes out of a finite sum of extended reals. -/
theorem sum_mul_coe {ι : Type} (s : Finset ι) (f : ι → EReal) (c : ℝ) (hc : 0 ≤ c) :
    ∑ j ∈ s, f j * (c : EReal) = (∑ j ∈ s, f j) * (c : EReal) := by
  classical
  induction s using Finset.induction_on with
  | empty => simp
  | insert a s ha ih =>
    rw [Finset.sum_insert ha, Finset.sum_insert ha, ih,
      EReal.right_distrib_of_nonneg_of_ne_top (by exact_mod_cast hc) (EReal.coe_ne_top c)]

/-- Twice a negative real's multiple. -/
theorem double (q : ℝ) (hq : q < 0) (p : EReal) : (q : EReal) * p + (q : EReal) * p = ((2 * q : ℝ) : EReal) * p := by
  induction p with
  | bot => rw [EReal.coe_mul_bot_of_neg hq, EReal.coe_mul_bot_of_neg (by linarith)]; rfl
  | top => rw [EReal.coe_mul_top_of_neg hq, EReal.coe_mul_top_of_neg (by linarith)]; rfl
  | coe p => norm_cast; ring

/-- A sum of squares is not minus infinity, and a real one is not negative. -/
theorem sum_sq {ι : Type} (s : Finset ι) (x : ι → EReal) : 0 ≤ ∑ j ∈ s, x j * x j :=
  Finset.sum_nonneg fun j _ => by
    rcases le_total 0 (x j) with h | h
    · exact mul_nonneg h h
    · rw [← neg_mul_neg]; have := EReal.neg_le_neg_iff.2 h; rw [neg_zero] at this; exact mul_nonneg this this

/-- The mean square plus a positive number is a positive real or infinite. -/
theorem meanSq_cases {ι : Type} (s : Finset ι) (x : ι → EReal) (e : ℝ) (he : 0 < e) :
    Ideal.div (∑ j ∈ s, x j * x j) ((1024 : ℝ) : EReal) + (e : EReal) = ⊤ ∨
      ∃ d : ℝ, 0 < d ∧ Ideal.div (∑ j ∈ s, x j * x j) ((1024 : ℝ) : EReal) + (e : EReal) = d := by
  rw [Ideal.div_coe (by norm_num)]
  have h := sum_sq s x
  induction hq : ∑ j ∈ s, x j * x j with
  | bot => rw [hq] at h; exact absurd h (by decide)
  | top => left; rw [EReal.top_mul_coe_of_pos (by norm_num)]; exact EReal.top_add_coe e
  | coe q =>
    rw [hq] at h
    have h' : 0 ≤ q := by exact_mod_cast h
    right
    exact ⟨q * (1 / 1024) + e, by positivity, by push_cast; rfl⟩

/-- THE ROW. With `D` the mean square of the row `x` and `n` the cotangent of the normalised row. -/
theorem row_eq (x n : Fin 1024 → EReal) (D a : EReal) (hD : D = ⊤ ∨ ∃ d : ℝ, 0 < d ∧ D = d) (i : Fin 1024) :
    a + Ideal.rsqrt D * (n i - x i * Ideal.rsqrt D * Ideal.div (∑ j, n j * (x j * Ideal.rsqrt D)) ((1024 : ℝ) : EReal)) =
      a + n i * Ideal.rsqrt D +
        x i * Ideal.div ((∑ j, x j * n j) * (((-1 / 2 : ℝ) : EReal) * Ideal.div (Ideal.rsqrt D) D)) ((1024 : ℝ) : EReal) +
        Ideal.div ((∑ j, x j * n j) * (((-1 / 2 : ℝ) : EReal) * Ideal.div (Ideal.rsqrt D) D)) ((1024 : ℝ) : EReal) * x i := by
  have hsum (c : ℝ) (hc : 0 ≤ c) : ∑ j, n j * (x j * (c : EReal)) = (∑ j, x j * n j) * (c : EReal) := by
    rw [← sum_mul_coe _ _ c hc]
    exact Finset.sum_congr rfl fun j _ => by rw [← mul_assoc, mul_comm (n j)]
  generalize hS : ∑ j, x j * n j = S at hsum ⊢
  rw [Ideal.div_coe (by norm_num), Ideal.div_coe (by norm_num)]
  rcases hD with rfl | ⟨d, hd, rfl⟩
  · have h0 : Ideal.div (Ideal.rsqrt ⊤) ⊤ = 0 := by rw [Ideal.rsqrt_top, Ideal.div, if_neg (by decide), zero_mul]
    rw [h0, Ideal.rsqrt_top]
    simp
  · have hr : Ideal.rsqrt (d : EReal) = (((Real.sqrt d)⁻¹ : ℝ) : EReal) := by
      rw [Ideal.rsqrt_coe, if_neg (not_lt.2 hd.le), if_neg hd.ne']
    have hc : 0 < (Real.sqrt d)⁻¹ := inv_pos.2 (Real.sqrt_pos.2 hd)
    have hcd : (Real.sqrt d)⁻¹ * (Real.sqrt d)⁻¹ = 1 / d := by
      rw [← mul_inv, Real.mul_self_sqrt hd.le, one_div]
    rw [hr, Ideal.div_coe hd.ne']
    generalize (Real.sqrt d)⁻¹ = c at hc hcd
    rw [hsum c hc.le]
    have hq : -1 / 2 * (c * (1 / d)) * (1 / 1024) < 0 := by
      have : 0 < c * (1 / d) := by positivity
      nlinarith
    have e1 : x i * (S * (((-1 / 2 : ℝ) : EReal) * ((c : EReal) * ((1 / d : ℝ) : EReal))) * ((1 / 1024 : ℝ) : EReal)) =
        ((-1 / 2 * (c * (1 / d)) * (1 / 1024) : ℝ) : EReal) * (x i * S) := by
      simp only [EReal.coe_mul]; ac_rfl
    have e2 : S * (((-1 / 2 : ℝ) : EReal) * ((c : EReal) * ((1 / d : ℝ) : EReal))) * ((1 / 1024 : ℝ) : EReal) * x i =
        ((-1 / 2 * (c * (1 / d)) * (1 / 1024) : ℝ) : EReal) * (x i * S) := by
      simp only [EReal.coe_mul]; ac_rfl
    have e3 : x i * (c : EReal) * (S * (c : EReal) * ((1 / 1024 : ℝ) : EReal)) = ((c * c * (1 / 1024) : ℝ) : EReal) * (x i * S) := by
      simp only [EReal.coe_mul]; ac_rfl
    rw [e1, e2, add_assoc, double _ hq, e3, sub_eq_add_neg,
      EReal.left_distrib_of_nonneg_of_ne_top (by exact_mod_cast hc.le) (EReal.coe_ne_top c), add_assoc, mul_comm (c : EReal) (n i),
      ← neg_mul, ← EReal.coe_neg, ← mul_assoc, ← EReal.coe_mul, hcd]
    congr 4
    ring

end RowNorm

end
-- ==== Proof.InprojRef.lean ====
/- The gradients of the normalised input projection, entry by entry, and that the reference computes them. -/
module

public import proofs.«01_k».proof.Proof.Gen.Reference3Ideal.Read
public import Idealize.ShloMosaic.Lib.Pointwise
public import Idealize.ShloMosaic.Lib.Pipeline.ValueKit
public import proofs.«01_k».proof.Proof.RowNorm

@[expose] public section

noncomputable section

namespace Cert.Reference3Ideal.Inproj

open Idealize.ShloMosaic Idealize.ShloMosaic.TcCoe
open Cert.Reference3Ideal Cert.Reference3Ideal.Read

/-- The number that keeps the root away from zero. -/
def eps : EReal := Ideal.ofBits .f32 0x358637BD#32

theorem eps_eq : ∃ e : ℝ, 0 < e ∧ eps = (e : EReal) := by
  refine ⟨_, ?_, show Ideal.ofBits .f32 0x358637BD#32 = _ by simp [Ideal.ofBits, Ideal.ieee]; rfl⟩
  norm_num

theorem lit_1024 : Ideal.ofBits .f32 0x44800000#32 = ((1024 : ℝ) : EReal) := by
  simp [Ideal.ofBits, Ideal.ieee, -EReal.coe_mul]; norm_num

theorem lit_half : Ideal.ofBits .f32 0xBF000000#32 = ((-1 / 2 : ℝ) : EReal) := by
  simp [Ideal.ofBits, Ideal.ieee, -EReal.coe_mul]; norm_num

/-- The mean square of row `s`. -/
def meanSq (x : FVec Ideal S8192x1024 .f32) (s : Fin 8192) : EReal :=
  Ideal.div (∑ j : Fin 1024, x (ix2 s j) * x (ix2 s j)) ((1024 : ℝ) : EReal) + eps

theorem meanSq_pos (x : FVec Ideal S8192x1024 .f32) (s : Fin 8192) : meanSq x s = ⊤ ∨ ∃ d : ℝ, 0 < d ∧ meanSq x s = d := by
  obtain ⟨e, he, h⟩ := eps_eq
  unfold meanSq
  rw [h]
  exact RowNorm.meanSq_cases _ _ e he

/-- The cotangent of the weighted activations: that of the projection's output times the transposed weight. -/
def dh (z : FVec Ideal S8192x3328 .f32) (w : FVec Ideal S1024x3328 .f32) (s : Fin 8192) (j : Fin 1024) : EReal :=
  ∑ k : Fin 3328, z (ix2 s k) * w (ix2 j k)

variable (x : FVec Ideal S8192x1024 .f32) (g : FVec Ideal S1024 .f32) (w : FVec Ideal S1024x3328 .f32) (a : FVec Ideal S8192x1024 .f32)
  (abc : FVec Ideal S8192x2304 .f32) (q1 k1 v1 q2 k2 v2 q3 k3 v3 gt : FVec Ideal S8192x256 .f32)

theorem v6_eq (i : S8192x1.Idx) (s : Fin 8192) (hs : s.val = (i 0).val) : val_main_v6 (F := Ideal) x i = meanSq x s := by
  simp only [val_main_v6_apply, val_main_v5_apply, val_main_v4_apply, val_main_v3_apply, val_main_v2_apply, val_main_v1_apply, val_main_v0_apply,
    val_main_cst_0_apply, val_main_cst_1_apply, val_main_cst_apply]
  pointwise
  rw [lit_1024]
  have e (k : Fin 1024) : idx_main_v1 (idx_main_v2 i) k = ix2 s k := funext fun b => Fin.ext (match b with
    | ⟨0, _⟩ => hs.symm
    | ⟨1, _⟩ => rfl)
  simp only [e]
  rfl

theorem v29_eq (i : S8192x1024.Idx) (s : Fin 8192) (j : Fin 1024) (hs : s.val = (i 0).val) (hj : j.val = (i 1).val) :
    val_main_v29 (F := Ideal) w abc q1 k1 v1 q2 k2 v2 q3 k3 v3 gt i =
      dh (val_main_v28 (F := Ideal) abc q1 k1 v1 q2 k2 v2 q3 k3 v3 gt) w s j := by
  rw [val_main_v29_apply]
  unfold dh
  refine Finset.sum_congr rfl fun k _ => congrArg₂ (· * ·) (congrArg _ (funext fun b => Fin.ext ?_)) (congrArg w (funext fun b => Fin.ext ?_))
  · match b with
    | ⟨0, _⟩ => exact hs.symm
    | ⟨1, _⟩ => rfl
  · match b with
    | ⟨0, _⟩ => exact hj.symm
    | ⟨1, _⟩ => rfl

theorem v34_eq (i : S8192x1024.Idx) (s : Fin 8192) (j : Fin 1024) (hs : s.val = (i 0).val) (hj : j.val = (i 1).val) :
    val_main_v34 (F := Ideal) g w abc q1 k1 v1 q2 k2 v2 q3 k3 v3 gt i =
      dh (val_main_v28 (F := Ideal) abc q1 k1 v1 q2 k2 v2 q3 k3 v3 gt) w s j * g (ix1 j) := by
  rw [val_main_v34_apply, v29_eq w abc q1 k1 v1 q2 k2 v2 q3 k3 v3 gt i s j hs hj, val_main_v33_apply, val_main_v13_apply]
  refine congrArg (_ * ·) (congrArg g (funext fun b => Fin.ext ?_))
  match b with
  | ⟨0, _⟩ => exact hj.symm

/-- THE GRADIENT IN THE LAYER'S INPUT, as the kernel writes it. -/
theorem dx_eq (s : Fin 8192) (j : Fin 1024) : val_main_v50 (F := Ideal) x g w a abc q1 k1 v1 q2 k2 v2 q3 k3 v3 gt (ix2 s j) =
    a (ix2 s j) + Ideal.rsqrt (meanSq x s) * (dh (val_main_v28 (F := Ideal) abc q1 k1 v1 q2 k2 v2 q3 k3 v3 gt) w s j * g (ix1 j) -
      x (ix2 s j) * Ideal.rsqrt (meanSq x s) * Ideal.div (∑ k : Fin 1024,
        dh (val_main_v28 (F := Ideal) abc q1 k1 v1 q2 k2 v2 q3 k3 v3 gt) w s k * g (ix1 k) *
          (x (ix2 s k) * Ideal.rsqrt (meanSq x s))) ((1024 : ℝ) : EReal)) := by
  refine Eq.trans ?_ (RowNorm.row_eq (fun k => x (ix2 s k))
    (fun k => dh (val_main_v28 (F := Ideal) abc q1 k1 v1 q2 k2 v2 q3 k3 v3 gt) w s k * g (ix1 k)) (meanSq x s) (a (ix2 s j))
    (meanSq_pos x s) j).symm
  simp only [val_main_v50_apply, val_main_v49_apply, val_main_v48_apply, val_main_v47_apply, val_main_v46_apply, val_main_v45_apply, val_main_v44_apply,
    val_main_v43_apply, val_main_v42_apply, val_main_v41_apply, val_main_v40_apply, val_main_v39_apply, val_main_v38_apply, val_main_v37_apply,
    val_main_v36_apply, val_main_v10_apply, val_main_v9_apply, val_main_v8_apply, val_main_v7_apply, val_main_cst_7_apply, val_main_cst_6_apply,
    val_main_cst_5_apply, val_main_cst_2_apply, Fin.sum_univ_one]
  have e (k : Fin 1024) : idx_main_v37 (idx_main_v38 (idx_main_v45 (idx_main_v46 (ix2 s j)) 0)) k = ix2 s k :=
    funext fun b => Fin.ext (match b with
      | ⟨0, _⟩ => by show s.val * 1 + 0 = s.val; omega
      | ⟨1, _⟩ => rfl)
  simp only [e]
  have e6 (i : S8192x1.Idx) (h : s.val = (i 0).val) := v6_eq x i s h
  have e34 (k : Fin 1024) := v34_eq g w abc q1 k1 v1 q2 k2 v2 q3 k3 v3 gt (ix2 s k) s k rfl rfl
  simp only [e34]
  rw [e6 _ rfl, e6 _ rfl]
  pointwise
  rw [lit_1024, lit_half]

/-- THE GRADIENT IN THE NORM'S WEIGHT. -/
theorem dg_eq (j : Fin 1024) : val_main_v51 (F := Ideal) x w abc q1 k1 v1 q2 k2 v2 q3 k3 v3 gt (ix2 0 j) =
    ∑ s : Fin 8192, dh (val_main_v28 (F := Ideal) abc q1 k1 v1 q2 k2 v2 q3 k3 v3 gt) w s j * (x (ix2 s j) * Ideal.rsqrt (meanSq x s)) := by
  simp only [val_main_v51_apply, val_main_v35_apply, val_main_v32_apply, val_main_v31_apply, val_main_v30_apply, val_main_v12_apply,
    val_main_v11_apply, val_main_v7_apply, val_main_cst_4_apply, val_main_cst_3_apply, Fin.sum_univ_one]
  pointwise
  refine Finset.sum_congr rfl fun s _ => ?_
  have e : idx_main_v31 (idx_main_v32 (idx_main_v35 (idx_main_v51 (ix2 0 j)) 0)) s = ix2 s j := funext fun b => Fin.ext (match b with
    | ⟨0, _⟩ => rfl
    | ⟨1, _⟩ => by show 0 * 1024 + (0 * 1024 + j.val) = j.val; omega)
  rw [e, v29_eq w abc q1 k1 v1 q2 k2 v2 q3 k3 v3 gt (ix2 s j) s j rfl rfl, v6_eq x _ s rfl, mul_comm]

/-- THE COTANGENT OF THE PROJECTION, its five runs of columns: the layer's own, the three mixed by dilation, and the gate. -/
theorem v28_at (s : Fin 8192) (k : Fin 3328) : val_main_v28 (F := Ideal) abc q1 k1 v1 q2 k2 v2 q3 k3 v3 gt (ix2 s k) =
    if h : (k : ℕ) < 2304 then abc (ix2 s ⟨k, h⟩)
    else if h' : (k : ℕ) < 2560 then (fun l => q1 (ix2 s l) + q2 (ix2 s l) + q3 (ix2 s l)) (⟨(k : ℕ) - 2304, by omega⟩ : Fin 256)
    else if h' : (k : ℕ) < 2816 then (fun l => k1 (ix2 s l) + k2 (ix2 s l) + k3 (ix2 s l)) (⟨(k : ℕ) - 2560, by omega⟩ : Fin 256)
    else if h' : (k : ℕ) < 3072 then (fun l => v1 (ix2 s l) + v2 (ix2 s l) + v3 (ix2 s l)) (⟨(k : ℕ) - 2816, by omega⟩ : Fin 256)
    else gt (ix2 s ⟨(k : ℕ) - 3072, by omega⟩) := by
  have off (n : ℕ) (l : Fin n) : ∀ b : Fin 2, b.cast rfl ≠ (1 : Fin 2) → ((ix2 s l) b).val = ((ix2 s k) b).val := fun b hb => match b, hb with
    | ⟨0, _⟩, _ => rfl
    | ⟨1, _⟩, hb => absurd rfl hb
  unfold val_main_v28
  split_ifs
  · exact (concatenate_apply_piece (t := S8192x3328) 1 _ _ (ix2 s k) 0 (by show 0 < 5; omega) S8192x2304 abc rfl rfl 0 rfl (ix2 s _) (off _ _) (by show 0 + _ = _; exact Nat.zero_add _)).trans rfl
  · exact (concatenate_apply_piece (t := S8192x3328) 1 _ _ (ix2 s k) 1 (by show 1 < 5; omega) S8192x256 (val_main_v25 (F := Ideal) q1 q2 q3) rfl rfl 2304 rfl (ix2 s _) (off _ _) (by show 2304 + (k.val - 2304) = k.val; omega)).trans rfl
  · exact (concatenate_apply_piece (t := S8192x3328) 1 _ _ (ix2 s k) 2 (by show 2 < 5; omega) S8192x256 (val_main_v26 (F := Ideal) k1 k2 k3) rfl rfl 2560 rfl (ix2 s _) (off _ _) (by show 2560 + (k.val - 2560) = k.val; omega)).trans rfl
  · exact (concatenate_apply_piece (t := S8192x3328) 1 _ _ (ix2 s k) 3 (by show 3 < 5; omega) S8192x256 (val_main_v27 (F := Ideal) v1 v2 v3) rfl rfl 2816 rfl (ix2 s _) (off _ _) (by show 2816 + (k.val - 2816) = k.val; omega)).trans rfl
  · exact (concatenate_apply_piece (t := S8192x3328) 1 _ _ (ix2 s k) 4 (by show 4 < 5; omega) S8192x256 gt rfl rfl 3072 rfl (ix2 s _) (off _ _) (by show 3072 + (k.val - 3072) = k.val; omega)).trans rfl

end Cert.Reference3Ideal.Inproj

end
-- ==== Proof.Inproj.lean ====
/- The input projection's backward call: the gradients of the layer's input and of the norm's weight are the reference's. -/
module

public import proofs.«01_k».proof.Proof.InprojOuts
public import proofs.«01_k».proof.Proof.InprojBlocks
public import proofs.«01_k».proof.Proof.InprojBody
public import proofs.«01_k».proof.Proof.InprojRef

@[expose] public section

set_option maxRecDepth 16384

noncomputable section

namespace Cert.Kernel3Ideal.Inproj

open Idealize.ShloMosaic Idealize.ShloMosaic.TcCoe Idealize.SL.Sem
open Cert.Kernel3Ideal Cert.Kernel3Ideal.Gen
open Cert.Reference3Ideal.Inproj (dh meanSq dx_eq dg_eq v28_at lit_1024 eps)
open Cert.Reference3Ideal.Read (val_main_v28 val_main_v50 val_main_v51)

/-- Three blocks that hold the rows of one stretch of positions, mixed: the sum of the arrays at that stretch. -/
theorem mix_row (t : Fin cfg0.N) (q1 q4 q16 : FVec Ideal S8192x256 .f32) (b1 : FVec Ideal S1x512x256 .bf16)
    (b4 : FVec Ideal S4x128x256 .bf16) (b16 : FVec Ideal S16x32x256 .bf16)
    (h1 : ∀ r n l, b1 (ix3 r n l) = lay1 q1 (ix3 r ⟨512 * t.val + n, by have := lt16 t; omega⟩ l))
    (h4 : ∀ r n l, b4 (ix3 r n l) = lay4 q4 (ix3 r ⟨128 * t.val + n, by have := lt16 t; omega⟩ l))
    (h16 : ∀ r n l, b16 (ix3 r n l) = lay16 q16 (ix3 r ⟨32 * t.val + n, by have := lt16 t; omega⟩ l)) (p : Fin 512) (l : Fin 256) :
    mix b1 b4 b16 p l = q1 (ix2 (row t p) l) + q4 (ix2 (row t p) l) + q16 (ix2 (row t p) l) := by
  have at_row (q : FVec Ideal S8192x256 .f32) (i : Fin 8192) (hi : (i : ℕ) = 512 * t.val + p) : q (ix2 i l) = q (ix2 (row t p) l) := by
    rw [show i = row t p from Fin.ext hi]
  unfold mix
  rw [h1, h4, h16, lay1_at, lay4_at, lay16_at]
  refine congrArg₂ (· + ·) (congrArg₂ (· + ·) (at_row q1 _ ?_) (at_row q4 _ ?_)) (at_row q16 _ ?_)
  · show (512 * t.val + p.val) * 1 + 0 = _
    omega
  · show (128 * t.val + p.val / 4) * 4 + p.val % 4 = _
    omega
  · show (32 * t.val + p.val / 16) * 16 + p.val % 16 = _
    omega

/-- A block put together from its five runs of columns, against five runs of columns of one row. -/
theorem dzBlk_row (x3 : FVec Ideal S512x2304 .f32) (q k v : Fin 512 → Fin 256 → EReal) (x13 : FVec Ideal S512x256 .f32)
    (p : Fin 512) (A : Fin 2304 → EReal) (Q K V G : Fin 256 → EReal) (h3 : ∀ l, x3 (ix2 p l) = A l) (hq : ∀ l, q p l = Q l)
    (hk : ∀ l, k p l = K l) (hv : ∀ l, v p l = V l) (hg : ∀ l, x13 (ix2 p l) = G l) (n : Fin 3328) :
    dzBlk x3 q k v x13 (ix2 p n) =
      if h : (n : ℕ) < 2304 then A ⟨n, h⟩
      else if h' : (n : ℕ) < 2560 then Q ⟨(n : ℕ) - 2304, by omega⟩
      else if h' : (n : ℕ) < 2816 then K ⟨(n : ℕ) - 2560, by omega⟩
      else if h' : (n : ℕ) < 3072 then V ⟨(n : ℕ) - 2816, by omega⟩
      else G ⟨(n : ℕ) - 3072, by omega⟩ := by
  rw [← funext h3, ← funext hq, ← funext hk, ← funext hv, ← funext hg]
  rfl

variable (m : (ℓ : Loc nD τ sig) → Buf (Elt Ideal) ℓ)

/-- The cotangent of the projection, of the program's arguments. -/
abbrev dzOf (c : Dev nD) : FVec Ideal S8192x3328 .f32 :=
  val_main_v28 (F := Ideal) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14))

/-- The block of the cotangent is its rows of that stretch. -/
theorem dz_row (c : Dev nD) (t : Fin cfg0.N) (p : Fin 512) (k : Fin 3328) : dzAt m c t (ix2 p k) = dzOf m c (ix2 (row t p) k) := by
  exact (dzBlk_row _ _ _ _ _ p _ _ _ _ _ (abc_at m c t p) (mix_row t _ _ _ _ _ _ (q1_at m c t) (q4_at m c t) (q16_at m c t) p)
    (mix_row t _ _ _ _ _ _ (k1_at m c t) (k4_at m c t) (k16_at m c t) p)
    (mix_row t _ _ _ _ _ _ (v1_at m c t) (v4_at m c t) (v16_at m c t) p) (gateBlk_at m c t p) k).trans (v28_at _ _ _ _ _ _ _ _ _ _ _ (row t p) k).symm

/-- The cotangent of the normalised rows, of the program's arguments. -/
abbrev dhOf (c : Dev nD) (s : Fin 8192) (j : Fin 1024) : EReal :=
  dh (dzOf m c) (m ((c : Thread nD τ).loc main_arg2)) s j

theorem dh_row (c : Dev nD) (t : Fin cfg0.N) (p : Fin 512) (j : Fin 1024) : dhAt m c t (ix2 p j) = dhOf m c (row t p) j := by
  unfold dhAt dhOf dh
  refine (dh_at _ _ p j).trans (Finset.sum_congr rfl fun k _ => ?_)
  exact congrArg₂ (· * ·) (dz_row m c t p k) (w_at m c t k j)

/-- The layer's input. -/
abbrev xOf (c : Dev nD) : FVec Ideal S8192x1024 .f32 := m ((c : Thread nD τ).loc main_arg0)

/-- The norm's weight. -/
abbrev gOf (c : Dev nD) : FVec Ideal S1024 .f32 := m ((c : Thread nD τ).loc main_arg1)

/-- The cotangent that reaches the input past the layer. -/
abbrev aOf (c : Dev nD) : FVec Ideal S8192x1024 .f32 := m ((c : Thread nD τ).loc main_arg3)

theorem root_row (c : Dev nD) (t : Fin cfg0.N) (p : Fin 512) :
    root (iblk m c 0 t) p = Ideal.rsqrt (meanSq (xOf m c) (row t p)) := by
  unfold root meanSq
  rw [lit_1024]
  refine congrArg Ideal.rsqrt (congrArg (· + _) (congrArg (Ideal.div · _) (Finset.sum_congr rfl fun k _ => ?_)))
  exact congrArg₂ (· * ·) (x_at m c t p k) (x_at m c t p k)

/-- The gradient of the layer's input, entry by entry. -/
def dxOf (c : Dev nD) (s : Fin 8192) (j : Fin 1024) : EReal :=
  aOf m c (ix2 s j) + Ideal.rsqrt (meanSq (xOf m c) s) *
    (dhOf m c s j * gOf m c (ix1 j) -
      xOf m c (ix2 s j) * Ideal.rsqrt (meanSq (xOf m c) s) *
        Ideal.div (∑ k : Fin 1024, dhOf m c s k * gOf m c (ix1 k) *
          (xOf m c (ix2 s k) * Ideal.rsqrt (meanSq (xOf m c) s))) ((1024 : ℝ) : EReal))

theorem dx_row (c : Dev nD) (t : Fin cfg0.N) (p : Fin 512) (j : Fin 1024) :
    (outsAt0 (F := Ideal) m c t.val t.isLt).1 (ix2 p j) = dxOf m c (row t p) j := by
  refine ((outs m c t).1 (ix2 p j)).trans ((dx_at _ _ _ _ p j).trans ?_)
  unfold dxOf
  rw [root_row, lit_1024, dh_row]
  refine congrArg₂ (· + ·) (a_at m c t p j) (congrArg (_ * ·) (congrArg₂ (· - ·) (congrArg (_ * ·) (g_at m c t j)) ?_))
  refine congrArg₂ (· * ·) (congrArg (· * _) (x_at m c t p j)) (congrArg (Ideal.div · _) (Finset.sum_congr rfl fun k _ => ?_))
  rw [dh_row]
  exact congrArg₂ (· * ·) (congrArg (_ * ·) (g_at m c t k)) (congrArg (· * _) (x_at m c t p k))

/-- What one position adds to the gradient of the norm's weight. -/
def dgTerm (c : Dev nD) (s : Fin 8192) (j : Fin 1024) : EReal :=
  dhOf m c s j * (xOf m c (ix2 s j) * Ideal.rsqrt (meanSq (xOf m c) s))

theorem dg_row (c : Dev nD) (t : Fin cfg0.N) (acc : FVec Ideal S1x1024 .f32) (i : S1x1024.Idx) :
    k0_pay177 (F := Ideal) (dhAt m c t) (k0_pay174 (iblk m c 0 t)) acc i = acc i + ∑ p : Fin 512, dgTerm m c (row t p) (i 1) := by
  refine (dg_at _ _ acc i).trans (congrArg (_ + ·) (Finset.sum_congr rfl fun p _ => ?_))
  unfold dgTerm
  exact congrArg₂ (· * ·) (dh_row m c t p (i 1)) (congrArg₂ (· * ·) (x_at m c t p (i 1)) (root_row m c t p))

theorem dg_run (c : Dev nD) (t : Fin cfg0.N) (h1 : t.val % 16 = 15) (i : S1x1024.Idx) :
    (outsAt0 (F := Ideal) m c t.val t.isLt).2.2.2 i = ∑ s : Fin 16, ∑ p : Fin 512,
      dgTerm m c (row ⟨16 * (t.val / 16) + s.val, Pipeline.run_point_lt_of_flush t h1 s⟩ p) (i 1) := by
  rw [Pipeline.eq_sum_fin_of_reset_step_apply_of_flush (fun n h => (outsAt0 (F := Ideal) m c n h).2.2.2) 16 (fun _ => 0)
    (fun t i => ∑ p : Fin 512, dgTerm m c (row t p) (i 1))
    (fun t h j => ((outs m c t).2.1 h j).trans ((dg_row m c t _ j).trans (by rw [zero_at])))
    (fun t h j => ((outs m c t).2.2 h j).trans (dg_row m c t _ j)) t h1 _, zero_add]

/-- The array of the input's gradient after the run. -/
theorem final15 (c : Dev nD) : (dats (F := Ideal) m 0 c).arrAt 15 cfg0.N =
    (fun i => dxOf m c (i 0) (i 1) : FVec Ideal S8192x1024 .f32) := by
  refine (dats (F := Ideal) m 0 c).arrAt_eq_of_covers 15 _ (by decide +kernel) fun t hf y => ?_
  blk_simp
  rw [after0_15]
  obtain_idx i : S512x1024 := [(y 0 : ℕ), (y 1 : ℕ)] with hi
  have hy : (show S512x1024.Idx from y) = ix2 (i 0) (i 1) := funext fun b => Fin.ext (match b with
    | ⟨0, _⟩ => hi0.symm
    | ⟨1, _⟩ => hi1.symm)
  refine (congrArg (outsAt0 (F := Ideal) m c t.val t.isLt).1 hy).trans ((dx_row m c t (i 0) (i 1)).trans ?_)
  show (fun i : S8192x1024.Idx => dxOf m c (i 0) (i 1)) (ix2 (row t (i 0)) (i 1)) =
    (fun i : S8192x1024.Idx => dxOf m c (i 0) (i 1)) ((win0_15.blk t).view.emb y)
  generalize (fun i : S8192x1024.Idx => dxOf m c (i 0) (i 1)) = f
  blk_point [row, idx t]

/-- The array of the norm weight's gradient after the run. -/
theorem final18 (c : Dev nD) : (dats (F := Ideal) m 0 c).arrAt 18 cfg0.N =
    (fun i => ∑ s : Fin 8192, dgTerm m c s (i 1) : FVec Ideal S1x1024 .f32) := by
  refine (dats (F := Ideal) m 0 c).arrAt_eq_of_covers 18 _ (by decide +kernel) fun t hf y => ?_
  have h1 := (flush0_18 t).mp hf
  blk_simp
  rw [after0_18]
  rw [dg_run m c t h1]
  refine Fin.sum_mul_add_congr fun s k hl => ?_
  show (fun i : S8192x1024.Idx => dgTerm m c (i 0) (i 1)) (ix2 (row ⟨16 * (t.val / 16) + s.val, Pipeline.run_point_lt_of_flush t h1 s⟩ k) (y 1)) =
    (fun i : S8192x1024.Idx => dgTerm m c (i 0) (i 1)) (ix2 ⟨s.val * 512 + k.val, hl⟩ ((win0_18.blk t).view.emb y 1))
  generalize (fun i : S8192x1024.Idx => dgTerm m c (i 0) (i 1)) = f
  blk_point [row, idx t]

theorem ix2_of (i : S8192x1024.Idx) : i = ix2 (i 0) (i 1) := funext fun b => Fin.ext (match b with
  | ⟨0, _⟩ => rfl
  | ⟨1, _⟩ => rfl)

theorem ix2_row (i : S1x1024.Idx) : i = ix2 0 (i 1) := funext fun b => Fin.ext (match b with
  | ⟨0, _⟩ => by have h : (i 0).val < 1 := (i 0).isLt; show (i 0).val = 0; omega
  | ⟨1, _⟩ => rfl)

/-- The array of the input's gradient is the reference's. -/
theorem dx_final (c : Dev nD) : (dats (F := Ideal) m 0 c).arrAt 15 cfg0.N = val_main_v50 (F := Ideal)
    (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))
    (m ((c : Thread nD τ).loc main_arg10)) (m ((c : Thread nD τ).loc main_arg11))
    (m ((c : Thread nD τ).loc main_arg12)) (m ((c : Thread nD τ).loc main_arg13))
    (m ((c : Thread nD τ).loc main_arg14)) := by
  rw [final15]
  exact funext fun i => ((congrArg (val_main_v50 (F := Ideal) _ _ _ _ _ _ _ _ _ _ _ _ _ _ _) (ix2_of i)).trans
    (dx_eq _ _ _ _ _ _ _ _ _ _ _ _ _ _ _ (i 0) (i 1))).symm

/-- The array of the norm weight's gradient is the reference's. -/
theorem dg_final (c : Dev nD) : (dats (F := Ideal) m 0 c).arrAt 18 cfg0.N = val_main_v51 (F := Ideal)
    (m ((c : Thread nD τ).loc main_arg0)) (m ((c : Thread nD τ).loc main_arg2))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))
    (m ((c : Thread nD τ).loc main_arg10)) (m ((c : Thread nD τ).loc main_arg11))
    (m ((c : Thread nD τ).loc main_arg12)) (m ((c : Thread nD τ).loc main_arg13))
    (m ((c : Thread nD τ).loc main_arg14)) := by
  rw [final18]
  exact funext fun i => ((congrArg (val_main_v51 (F := Ideal) _ _ _ _ _ _ _ _ _ _ _ _ _) (ix2_row i)).trans
    (dg_eq _ _ _ _ _ _ _ _ _ _ _ _ _ (i 1))).symm

end Cert.Kernel3Ideal.Inproj

end
-- ==== Proof.MixBody.lean ====
/- What the body of the input projection computes from the blocks it holds, entry by entry. -/
module

public import proofs.«01_k».proof.Proof.Gen.Kernel4Ideal.Skeleton
public import Idealize.ShloMosaic.Lib.Pipeline.ValueKit
public import Idealize.ShloMosaic.Lib.Pointwise

@[expose] public section

noncomputable section

namespace Cert.Kernel4Ideal.Mix

open Idealize.ShloMosaic Idealize.ShloMosaic.TcCoe
open Cert.Kernel4Ideal Cert.Kernel4Ideal.Gen

/-- The reciprocal root of a row's mean square. -/
def root (x : FVec Ideal S512x1024 .f32) (p : Fin 512) : EReal :=
  Ideal.rsqrt (Ideal.div (∑ k : Fin 1024, x (ix2 p k) * x (ix2 p k)) (Ideal.ofBits .f32 0x44800000#32) + Ideal.ofBits .f32 0x358637BD#32)

/-- The normalised row, weighted. -/
theorem norm_at (x : FVec Ideal S512x1024 .f32) (g : FVec Ideal S1x1024 .f32) (p : Fin 512) (j : Fin 1024) :
    k0_pay4 (F := Ideal) x g (ix2 p j) = x (ix2 p j) * root x p * g (ix2 0 j) := by
  pointwise [k0_pay4]
  rfl

theorem z_at (x : FVec Ideal S512x1024 .f32) (g : FVec Ideal S1x1024 .f32) (w : FVec Ideal S2304x1024 .bf16) (p : Fin 512) (n : Fin 2304) :
    k0_pay5 (F := Ideal) x g w (ix2 p n) = ∑ k : Fin 1024, x (ix2 p k) * root x p * g (ix2 0 k) * w (ix2 n k) := by
  pointwise [k0_pay5, norm_at]

theorem gate_at (x : FVec Ideal S512x1024 .f32) (g : FVec Ideal S1x1024 .f32) (w : FVec Ideal S256x1024 .bf16) (p : Fin 512) (n : Fin 256) :
    k0_pay14 (F := Ideal) (k0_pay4 x g) w (ix2 p n) = ∑ k : Fin 1024, x (ix2 p k) * root x p * g (ix2 0 k) * w (ix2 n k) := by
  pointwise [k0_pay14, norm_at]

end Cert.Kernel4Ideal.Mix

end
-- ==== Proof.MixRef.lean ====
/- The normalised input projection, entry by entry, and that the reference computes it. -/
module

public import proofs.«01_k».proof.Proof.Gen.Reference4Ideal.Read
public import Idealize.ShloMosaic.Lib.Pointwise
public import Idealize.ShloMosaic.Lib.Pipeline.ValueKit

@[expose] public section

noncomputable section

namespace Cert.Reference4Ideal.Mix

open Idealize.ShloMosaic Idealize.ShloMosaic.TcCoe
open Cert.Reference4Ideal Cert.Reference4Ideal.Read

/-- The reciprocal root of the mean square of row `s`. -/
def root (x : FVec Ideal S8192x1024 .f32) (s : Fin 8192) : EReal :=
  Ideal.rsqrt (Ideal.div (∑ k : Fin 1024, x (ix2 s k) * x (ix2 s k)) (Ideal.ofBits .f32 0x44800000#32) + Ideal.ofBits .f32 0x358637BD#32)

/-- One entry of the projection: the normalised row `s`, weighted, times column `n` of the weight. -/
def proj (x : FVec Ideal S8192x1024 .f32) (g : FVec Ideal S1024 .f32) (w : FVec Ideal S1024x3328 .f32) (s : Fin 8192) (n : Fin 3328) : EReal :=
  ∑ k : Fin 1024, x (ix2 s k) * root x s * g (ix1 k) * w (ix2 k n)

variable (x : FVec Ideal S8192x1024 .f32) (g : FVec Ideal S1024 .f32) (w : FVec Ideal S1024x3328 .f32)

theorem v7_eq (i : S8192x1.Idx) (s : Fin 8192) (hs : s.val = (i 0).val) : val_main_v7 (F := Ideal) x i = root x s := by
  simp only [val_main_v7_apply, val_main_v6_apply, val_main_v5_apply, val_main_v4_apply, val_main_v3_apply, val_main_v2_apply,
    val_main_v1_apply, val_main_v0_apply, val_main_cst_0_apply, val_main_cst_1_apply, val_main_cst_apply]
  pointwise
  have e (k : Fin 1024) : idx_main_v1 (idx_main_v2 i) k = ix2 s k := funext fun b => Fin.ext (match b with
    | ⟨0, _⟩ => hs.symm
    | ⟨1, _⟩ => rfl)
  simp only [e]
  rfl

theorem v13_eq (i : S8192x3328.Idx) (s : Fin 8192) (n : Fin 3328) (hs : s.val = (i 0).val) (hn : n.val = (i 1).val) :
    val_main_v13 (F := Ideal) x g w i = proj x g w s n := by
  rw [val_main_v13_apply]
  unfold proj
  refine Finset.sum_congr rfl fun k _ => congrArg₂ (· * ·) ?_ (congrArg w (funext fun b => Fin.ext ?_))
  · rw [val_main_v12_apply, val_main_v9_apply, val_main_v8_apply, v7_eq x _ s hs, val_main_v11_apply, val_main_v10_apply]
    refine congrArg₂ (· * ·) (congrArg (· * _) (congrArg x (funext fun b => Fin.ext ?_))) (congrArg g (funext fun b => Fin.ext ?_))
    · match b with
      | ⟨0, _⟩ => exact hs.symm
      | ⟨1, _⟩ => rfl
    · match b with
      | ⟨0, _⟩ => rfl
  · match b with
    | ⟨0, _⟩ => rfl
    | ⟨1, _⟩ => exact hn.symm

/-- The columns of the mixers' activations. -/
theorem z_eq (i : S8192x2304.Idx) : val_main_v14 (F := Ideal) x g w i =
    proj x g w (i 0) ⟨(i 1).val, by have h : (i 1).val < 2304 := (i 1).isLt; omega⟩ := by
  rw [val_main_v14_apply]
  exact v13_eq x g w _ _ _ rfl rfl

/-- The columns of the gate. -/
theorem gate_eq (i : S8192x256.Idx) : val_main_v15 (F := Ideal) x g w i =
    proj x g w (i 0) ⟨3072 + (i 1).val, by have h : (i 1).val < 256 := (i 1).isLt; omega⟩ := by
  rw [val_main_v15_apply]
  exact v13_eq x g w _ _ _ rfl rfl

end Cert.Reference4Ideal.Mix

end
-- ==== Proof.Mix.lean ====
/- The input projection's forward call: the mixers' activations and the gate are the reference's. -/
module

public import proofs.«01_k».proof.Proof.MixBody
public import proofs.«01_k».proof.Proof.MixRef
public import proofs.«01_k».proof.Proof.Gen.Kernel4Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel4Ideal.Mix

open Idealize.ShloMosaic Idealize.ShloMosaic.TcCoe Idealize.SL.Sem
open Cert.Kernel4Ideal Cert.Kernel4Ideal.Gen
open Cert.Reference4Ideal.Mix (proj z_eq gate_eq)
open Cert.Reference4Ideal.Read (val_main_v14 val_main_v15)

variable (m : (ℓ : Loc nD τ sig) → Buf (Elt Ideal) ℓ)

theorem idx : ∀ t : Fin cfg0.N,
    win0_0.index t = ![t.val, 0] ∧ win0_1.index t = ![0, 0] ∧ win0_2.index t = ![0, 0] ∧
    win0_10.index t = ![t.val, 0] ∧ win0_11.index t = ![t.val, 0] :=
  (by decide +kernel : ∀ t : Fin grid0.N, _)

theorem lt16 (t : Fin cfg0.N) : t.val < 16 := t.isLt

/-- The position of row `p` of the block of point `t`. -/
def row (t : Fin cfg0.N) (p : Fin 512) : Fin 8192 := ⟨512 * t.val + p, by have := lt16 t; omega⟩

/-- The layer's input. -/
abbrev xOf (c : Dev nD) : FVec Ideal S8192x1024 .f32 := m ((c : Thread nD τ).loc main_arg0)

/-- The norm's weight. -/
abbrev gOf (c : Dev nD) : FVec Ideal S1024 .f32 := m ((c : Thread nD τ).loc main_arg1)

/-- The projection's weight. -/
abbrev wOf (c : Dev nD) : FVec Ideal S1024x3328 .f32 := m ((c : Thread nD τ).loc main_arg2)

theorem x_at (c : Dev nD) (t : Fin cfg0.N) (p : Fin 512) (j : Fin 1024) :
    (show FVec Ideal S512x1024 .f32 from iblk m c 0 t) (ix2 p j) =
      (show FVec Ideal S8192x1024 .f32 from m ((c : Thread nD τ).loc main_arg0)) (ix2 (row t p) j) := by
  blk_point [iblk, V, idx t, row]

theorem V_g (c : Dev nD) : V m c main_v0 = shapeCast S1x1024 (show FVec Ideal S1024 .f32 from m ((c : Thread nD τ).loc main_arg1)) shapeCasts_S1024_S1x1024 := by
  entry_read
  rfl

theorem g_at (c : Dev nD) (t : Fin cfg0.N) (j : Fin 1024) :
    (show FVec Ideal S1x1024 .f32 from iblk m c 1 t) (ix2 0 j) = gOf m c (ix1 j) := by
  have e : (show FVec Ideal S1x1024 .f32 from iblk m c 1 t) (ix2 0 j) = (show FVec Ideal S1x1024 .f32 from V m c main_v0) (ix2 0 j) := by
    blk_point [iblk, idx t]
  rw [e, V_g]
  pointwise

theorem V_w (c : Dev nD) : V m c main_v2 = truncf .bf16 (transpose S3328x1024 [1, 0] (show FVec Ideal S1024x3328 .f32 from m ((c : Thread nD τ).loc main_arg2)) transposes_S1024x3328_S3328x1024_1_0) bitsLt_bf16_f32 := by
  entry_read
  rfl

theorem w_at (c : Dev nD) (t : Fin cfg0.N) (k : Fin 3328) (j : Fin 1024) :
    (show FVec Ideal S3328x1024 .bf16 from iblk m c 2 t) (ix2 k j) = wOf m c (ix2 j k) := by
  have e : (show FVec Ideal S3328x1024 .bf16 from iblk m c 2 t) (ix2 k j) = (show FVec Ideal S3328x1024 .bf16 from V m c main_v2) (ix2 k j) := by
    blk_point [iblk, idx t]
  rw [e, V_w]
  pointwise

/-- The weight's rows of the mixers' activations. -/
def wz (w : FVec Ideal S3328x1024 .bf16) : FVec Ideal S2304x1024 .bf16 :=
  View.ld (Val := Elt Ideal) (e' := .bf16) w (Rect.unit (s := S3328x1024) ![0, 0] S2304x1024.size inb_S3328x1024_S2304x1024_0_0)

/-- The weight's rows of the gate. -/
def wgate (w : FVec Ideal S3328x1024 .bf16) : FVec Ideal S256x1024 .bf16 :=
  View.ld (Val := Elt Ideal) (e' := .bf16) w (Rect.unit (s := S3328x1024) ![3072, 0] S256x1024.size inb_S3328x1024_S256x1024_3072_0)

theorem wz_at (w : FVec Ideal S3328x1024 .bf16) (n : Fin 2304) (k : Fin 1024) : wz w (ix2 n k) = w (ix2 ⟨n.val, by omega⟩ k) :=
  View.ld_unit_apply_of (Val := Elt Ideal) (e := .bf16) (S := S3328x1024) w _ _ _ (ix2 n k) _ fun a => match a with
    | ⟨0, _⟩ => (Nat.zero_add _).symm
    | ⟨1, _⟩ => (Nat.zero_add _).symm

theorem wgate_at (w : FVec Ideal S3328x1024 .bf16) (n : Fin 256) (k : Fin 1024) : wgate w (ix2 n k) = w (ix2 ⟨3072 + n.val, by omega⟩ k) :=
  View.ld_unit_apply_of (Val := Elt Ideal) (e := .bf16) (S := S3328x1024) w _ _ _ (ix2 n k) _ fun a => match a with
    | ⟨0, _⟩ => rfl
    | ⟨1, _⟩ => (Nat.zero_add _).symm

set_option maxHeartbeats 8000000 in
/-- The blocks of the two results at a grid point. -/
theorem outs (c : Dev nD) (t : Fin cfg0.N) :
    (∀ y, (outsAt0 (F := Ideal) m c t.val t.isLt).1 y = k0_pay5 (F := Ideal) (iblk m c 0 t) (iblk m c 1 t) (wz (iblk m c 2 t)) y) ∧
    (∀ y, (outsAt0 (F := Ideal) m c t.val t.isLt).2.1 y =
      k0_pay14 (F := Ideal) (k0_pay4 (iblk m c 0 t) (iblk m c 1 t)) (wgate (iblk m c 2 t)) y) := by
  have hA := outsAt0_A m c t
  have hB := outsAt0_B m c t
  unfold wz wgate
  obtain ⟨x0, e0⟩ : ∃ x : FVec Ideal S512x1024 .f32, x = iblk m c 0 t := ⟨_, rfl⟩
  obtain ⟨x1, e1⟩ : ∃ x : FVec Ideal S1x1024 .f32, x = iblk m c 1 t := ⟨_, rfl⟩
  obtain ⟨x2, e2⟩ : ∃ x : FVec Ideal S3328x1024 .bf16, x = iblk m c 2 t := ⟨_, rfl⟩
  rw [← e0, ← e1, ← e2] at hA hB ⊢
  clear e0 e1 e2
  by_cases h0 : t.val % 16 = 0
  · refine ⟨fun y => ?_, fun y => ?_⟩
    · rw [hA h0]
      frame_out
    · rw [hA h0]
      frame_out
  · refine ⟨fun y => ?_, fun y => ?_⟩
    · rw [hB h0]
      frame_out
    · rw [hB h0]
      frame_out

theorem root_row (c : Dev nD) (t : Fin cfg0.N) (p : Fin 512) :
    root (iblk m c 0 t) p = Cert.Reference4Ideal.Mix.root (xOf m c) (row t p) := by
  unfold root Cert.Reference4Ideal.Mix.root
  refine congrArg Ideal.rsqrt (congrArg (· + _) (congrArg (Ideal.div · _) (Finset.sum_congr rfl fun k _ => ?_)))
  exact congrArg₂ (· * ·) (x_at m c t p k) (x_at m c t p k)

/-- One entry of the projection, of the program's arguments. -/
abbrev projOf (c : Dev nD) (s : Fin 8192) (n : Fin 3328) : EReal := proj (xOf m c) (gOf m c) (wOf m c) s n

theorem z_row (c : Dev nD) (t : Fin cfg0.N) (p : Fin 512) (n : Fin 2304) :
    (outsAt0 (F := Ideal) m c t.val t.isLt).1 (ix2 p n) = projOf m c (row t p) ⟨n.val, by omega⟩ := by
  refine ((outs m c t).1 (ix2 p n)).trans ((z_at _ _ _ p n).trans (Finset.sum_congr rfl fun k _ => ?_))
  rw [root_row, wz_at]
  exact congrArg₂ (· * ·) (congrArg₂ (· * ·) (congrArg (· * _) (x_at m c t p k)) (g_at m c t k)) (w_at m c t _ k)

theorem gate_row (c : Dev nD) (t : Fin cfg0.N) (p : Fin 512) (n : Fin 256) :
    (outsAt0 (F := Ideal) m c t.val t.isLt).2.1 (ix2 p n) = projOf m c (row t p) ⟨3072 + n.val, by omega⟩ := by
  refine ((outs m c t).2 (ix2 p n)).trans ((gate_at _ _ _ p n).trans (Finset.sum_congr rfl fun k _ => ?_))
  rw [root_row, wgate_at]
  exact congrArg₂ (· * ·) (congrArg₂ (· * ·) (congrArg (· * _) (x_at m c t p k)) (g_at m c t k)) (w_at m c t _ k)

/-- The mixers' activations at all the positions. -/
def zAll (c : Dev nD) : FVec Ideal S8192x2304 .f32 :=
  fun i => projOf m c (i 0) ⟨(i 1).val, by have h : (i 1).val < 2304 := (i 1).isLt; omega⟩

/-- The array of the mixers' activations after the run. -/
theorem final10 (c : Dev nD) : (dats (F := Ideal) m 0 c).arrAt 10 cfg0.N = zAll m c := by
  refine (dats (F := Ideal) m 0 c).arrAt_eq_of_covers 10 _ (by decide +kernel) fun t hf y => ?_
  blk_simp
  rw [after0_10]
  obtain_idx i : S512x2304 := [(y 0 : ℕ), (y 1 : ℕ)] with hi
  have hy : (show S512x2304.Idx from y) = ix2 (i 0) (i 1) := funext fun b => Fin.ext (match b with
    | ⟨0, _⟩ => hi0.symm
    | ⟨1, _⟩ => hi1.symm)
  refine (congrArg (outsAt0 (F := Ideal) m c t.val t.isLt).1 hy).trans ((z_row m c t (i 0) (i 1)).trans ?_)
  show zAll m c (ix2 (row t (i 0)) (i 1)) = zAll m c ((win0_10.blk t).view.emb y)
  generalize zAll m c = f
  blk_point [row, idx t]

/-- The gate at all the positions. -/
def gateAll (c : Dev nD) : FVec Ideal S8192x256 .f32 :=
  fun i => projOf m c (i 0) ⟨3072 + (i 1).val, by have h : (i 1).val < 256 := (i 1).isLt; omega⟩

/-- The array of the gate after the run. -/
theorem final11 (c : Dev nD) : (dats (F := Ideal) m 0 c).arrAt 11 cfg0.N = gateAll m c := by
  refine (dats (F := Ideal) m 0 c).arrAt_eq_of_covers 11 _ (by decide +kernel) fun t hf y => ?_
  blk_simp
  rw [after0_11]
  obtain_idx i : S512x256 := [(y 0 : ℕ), (y 1 : ℕ)] with hi
  have hy : (show S512x256.Idx from y) = ix2 (i 0) (i 1) := funext fun b => Fin.ext (match b with
    | ⟨0, _⟩ => hi0.symm
    | ⟨1, _⟩ => hi1.symm)
  refine (congrArg (outsAt0 (F := Ideal) m c t.val t.isLt).2.1 hy).trans ((gate_row m c t (i 0) (i 1)).trans ?_)
  show gateAll m c (ix2 (row t (i 0)) (i 1)) = gateAll m c ((win0_11.blk t).view.emb y)
  generalize gateAll m c = f
  blk_point [row, idx t]

/-- The array of the mixers' activations is the reference's. -/
theorem z_final (c : Dev nD) : (dats (F := Ideal) m 0 c).arrAt 10 cfg0.N = val_main_v14 (F := Ideal)
    (m ((c : Thread nD τ).loc main_arg0)) (m ((c : Thread nD τ).loc main_arg1)) (m ((c : Thread nD τ).loc main_arg2)) := by
  rw [final10]
  exact funext fun i => (z_eq _ _ _ i).symm

/-- The array of the gate is the reference's. -/
theorem gate_final (c : Dev nD) : (dats (F := Ideal) m 0 c).arrAt 11 cfg0.N = val_main_v15 (F := Ideal)
    (m ((c : Thread nD τ).loc main_arg0)) (m ((c : Thread nD τ).loc main_arg1)) (m ((c : Thread nD τ).loc main_arg2)) := by
  rw [final11]
  exact funext fun i => (gate_eq _ _ _ i).symm

end Cert.Kernel4Ideal.Mix

end
-- ==== Proof.MixQkv.lean ====
/- The input projection's forward call: the attention's queries, keys and values in each of their layouts are the
   reference's. -/
module

public import proofs.«01_k».proof.Proof.Mix

@[expose] public section

set_option maxRecDepth 16384

noncomputable section

namespace Cert.Reference4Ideal.Mix

open Idealize.ShloMosaic Idealize.ShloMosaic.TcCoe
open Cert.Reference4Ideal Cert.Reference4Ideal.Read

variable (x : FVec Ideal S8192x1024 .f32) (g : FVec Ideal S1024 .f32) (w : FVec Ideal S1024x3328 .f32)

/-- The columns of the attention's queries, keys and values, all the positions together. -/
theorem qkv1_eq (i : S1x8192x768.Idx) : val_main_v19 (F := Ideal) x g w i =
    proj x g w (i 1) ⟨2304 + (i 2).val, by have h : (i 2).val < 768 := (i 2).isLt; omega⟩ := by
  rw [val_main_v19_apply, val_main_v18_apply, val_main_v17_apply]
  show val_main_v16 (F := Ideal) x g w _ = _
  rw [val_main_v16_apply]
  have h0 : (i 0).val < 1 := (i 0).isLt
  have h2 : (i 2).val < 768 := (i 2).isLt
  refine v13_eq x g w _ _ _ ?_ ?_
  · show (i 1).val = (((i 1).val * 1 + (i 0).val) * 768 + (i 2).val) / 768
    omega
  · show 2304 + (i 2).val = 2304 + (((i 1).val * 1 + (i 0).val) * 768 + (i 2).val) % 768
    omega

/-- The same columns, the positions of each residue modulo 4 together. -/
theorem qkv4_eq (i : S4x2048x768.Idx) : val_main_v23 (F := Ideal) x g w i =
    proj x g w ⟨4 * (i 1).val + (i 0).val, by have h : (i 0).val < 4 := (i 0).isLt; have h : (i 1).val < 2048 := (i 1).isLt; omega⟩
      ⟨2304 + (i 2).val, by have h : (i 2).val < 768 := (i 2).isLt; omega⟩ := by
  rw [val_main_v23_apply, val_main_v22_apply, val_main_v21_apply]
  show val_main_v20 (F := Ideal) x g w _ = _
  rw [val_main_v20_apply]
  have h2 : (i 2).val < 768 := (i 2).isLt
  refine v13_eq x g w _ _ _ ?_ ?_
  · show 4 * (i 1).val + (i 0).val = (((i 1).val * 4 + (i 0).val) * 768 + (i 2).val) / 768
    omega
  · show 2304 + (i 2).val = 2304 + (((i 1).val * 4 + (i 0).val) * 768 + (i 2).val) % 768
    omega

/-- The same columns, the positions of each residue modulo 16 together. -/
theorem qkv16_eq (i : S16x512x768.Idx) : val_main_v27 (F := Ideal) x g w i =
    proj x g w ⟨16 * (i 1).val + (i 0).val, by have h : (i 0).val < 16 := (i 0).isLt; have h : (i 1).val < 512 := (i 1).isLt; omega⟩
      ⟨2304 + (i 2).val, by have h : (i 2).val < 768 := (i 2).isLt; omega⟩ := by
  rw [val_main_v27_apply, val_main_v26_apply, val_main_v25_apply]
  show val_main_v24 (F := Ideal) x g w _ = _
  rw [val_main_v24_apply]
  have h2 : (i 2).val < 768 := (i 2).isLt
  refine v13_eq x g w _ _ _ ?_ ?_
  · show 16 * (i 1).val + (i 0).val = (((i 1).val * 16 + (i 0).val) * 768 + (i 2).val) / 768
    omega
  · show 2304 + (i 2).val = 2304 + (((i 1).val * 16 + (i 0).val) * 768 + (i 2).val) % 768
    omega

end Cert.Reference4Ideal.Mix

namespace Cert.Kernel4Ideal.Mix

open Idealize.ShloMosaic Idealize.ShloMosaic.TcCoe Idealize.SL.Sem
open Cert.Kernel4Ideal Cert.Kernel4Ideal.Gen
open Cert.Reference4Ideal.Mix (qkv1_eq qkv4_eq qkv16_eq)
open Cert.Reference4Ideal.Read (val_main_v19 val_main_v23 val_main_v27)

/-- The queries, keys and values of a block. -/
theorem qkv_at (x : FVec Ideal S512x1024 .f32) (g : FVec Ideal S1x1024 .f32) (w : FVec Ideal S768x1024 .bf16) (p : Fin 512) (n : Fin 768) :
    k0_pay6 (F := Ideal) x g w (ix2 p n) = ∑ k : Fin 1024, x (ix2 p k) * root x p * g (ix2 0 k) * w (ix2 n k) := by
  pointwise [k0_pay6, norm_at]

/-- The columns of a block in six runs, as the scratch holds them. -/
def lanes (v : FVec Ideal S512x768 .f32) : FVec Ideal S6x512x128 .f32 :=
  fun i => v (ix2 (i 1) ⟨128 * (i 0).val + (i 2).val, by have h : (i 0).val < 6 := (i 0).isLt; have h : (i 2).val < 128 := (i 2).isLt; omega⟩)

/-- A run of columns cut out of a block, at an index. -/
theorem run_of (v : FVec Ideal S512x768 .f32) (y : S6x512x128.Idx) (q : Fin 512) (n : Fin 768) (h1 : (y 1).val = q.val)
    (h : 128 * (y 0).val + (y 2).val = n.val) : v (ix2 q n) = lanes v y := by
  refine congrArg v (funext fun b => Fin.ext (match b with
    | ⟨0, _⟩ => h1.symm
    | ⟨1, _⟩ => h.symm))

/-- The scratch after its six stores. -/
theorem scratch (x : FVec Ideal S512x1024 .f32) (g : FVec Ideal S1x1024 .f32) (w : FVec Ideal S768x1024 .bf16)
    :
    View.canon (Val := Elt Ideal) (s := S6x512x128) (e := .f32)
      [⟨Rect.unit (s := S6x512x128) ![5, 0, 0] S1x512x128.size inb_S6x512x128_S1x512x128_5_0_0, k0_pay13 (F := Ideal) (k0_pay6 x g w)⟩,
       ⟨Rect.unit (s := S6x512x128) ![4, 0, 0] S1x512x128.size inb_S6x512x128_S1x512x128_4_0_0, k0_pay12 (F := Ideal) (k0_pay6 x g w)⟩,
       ⟨Rect.unit (s := S6x512x128) ![3, 0, 0] S1x512x128.size inb_S6x512x128_S1x512x128_3_0_0, k0_pay11 (F := Ideal) (k0_pay6 x g w)⟩,
       ⟨Rect.unit (s := S6x512x128) ![2, 0, 0] S1x512x128.size inb_S6x512x128_S1x512x128_2_0_0, k0_pay10 (F := Ideal) (k0_pay6 x g w)⟩,
       ⟨Rect.unit (s := S6x512x128) ![1, 0, 0] S1x512x128.size inb_S6x512x128_S1x512x128_1_0_0, k0_pay9 (F := Ideal) (k0_pay8 x g w)⟩,
       ⟨Rect.unit (s := S6x512x128) ![0, 0, 0] S1x512x128.size inb_S6x512x128_S1x512x128_0_0_0, k0_pay7 (F := Ideal) x g w⟩] = lanes (k0_pay6 (F := Ideal) x g w) := by
  funext y
  canon_tiles x h
  all_goals
    simp only [k0_pay7, k0_pay9, k0_pay8, k0_pay10, k0_pay11, k0_pay12, k0_pay13]
    pointwise
    exact run_of _ y _ _ h1 (by dsimp only; omega)

/-- The same with the pieces' extents written out. -/
theorem scratch_lit (x : FVec Ideal S512x1024 .f32) (g : FVec Ideal S1x1024 .f32) (w : FVec Ideal S768x1024 .bf16)
    :
    View.canon (Val := Elt Ideal) (s := S6x512x128) (e := .f32)
      [⟨Rect.unit (s := S6x512x128) ![5, 0, 0] ![1, 512, 128] inb_S6x512x128_S1x512x128_5_0_0, k0_pay13 (F := Ideal) (k0_pay6 x g w)⟩,
       ⟨Rect.unit (s := S6x512x128) ![4, 0, 0] ![1, 512, 128] inb_S6x512x128_S1x512x128_4_0_0, k0_pay12 (F := Ideal) (k0_pay6 x g w)⟩,
       ⟨Rect.unit (s := S6x512x128) ![3, 0, 0] ![1, 512, 128] inb_S6x512x128_S1x512x128_3_0_0, k0_pay11 (F := Ideal) (k0_pay6 x g w)⟩,
       ⟨Rect.unit (s := S6x512x128) ![2, 0, 0] ![1, 512, 128] inb_S6x512x128_S1x512x128_2_0_0, k0_pay10 (F := Ideal) (k0_pay6 x g w)⟩,
       ⟨Rect.unit (s := S6x512x128) ![1, 0, 0] ![1, 512, 128] inb_S6x512x128_S1x512x128_1_0_0, k0_pay9 (F := Ideal) (k0_pay8 x g w)⟩,
       ⟨Rect.unit (s := S6x512x128) ![0, 0, 0] ![1, 512, 128] inb_S6x512x128_S1x512x128_0_0_0, k0_pay7 (F := Ideal) x g w⟩] = lanes (k0_pay6 (F := Ideal) x g w) :=
  scratch x g w

/-- The weight's rows of the queries, keys and values. -/
def wqkv (w : FVec Ideal S3328x1024 .bf16) : FVec Ideal S768x1024 .bf16 :=
  View.ld (Val := Elt Ideal) (e' := .bf16) w (Rect.unit (s := S3328x1024) ![2304, 0] S768x1024.size inb_S3328x1024_S768x1024_2304_0)

theorem wqkv_at (w : FVec Ideal S3328x1024 .bf16) (n : Fin 768) (k : Fin 1024) : wqkv w (ix2 n k) = w (ix2 ⟨2304 + n.val, by omega⟩ k) :=
  View.ld_unit_apply_of (Val := Elt Ideal) (e := .bf16) (S := S3328x1024) w _ _ _ (ix2 n k) _ fun a => match a with
    | ⟨0, _⟩ => rfl
    | ⟨1, _⟩ => (Nat.zero_add _).symm

/-- The value of a block's queries, keys and values that position `(p, n)` of the first layout holds. -/
def lay1 (v : FVec Ideal S512x768 .f32) : FVec Ideal S1x512x768 .bf16 := fun y => v (ix2 (y 1) (y 2))

/-- The value that position `(r, q, n)` of the second layout holds: the rows of residue `r` modulo 4 follow one another. -/
def lay4 (v : FVec Ideal S512x768 .f32) : FVec Ideal S4x128x768 .bf16 :=
  fun y => v (ix2 ⟨4 * (y 1).val + (y 0).val, by have h : (y 0).val < 4 := (y 0).isLt; have h : (y 1).val < 128 := (y 1).isLt; omega⟩ (y 2))

theorem lay1_of (v : FVec Ideal S512x768 .f32) (y : S1x512x768.Idx) (j : S6x512x128.Idx) (h1 : (y 1).val = (j 1).val)
    (h2 : (y 2).val = 128 * (j 0).val + (j 2).val) : lanes v j = lay1 v y := by
  refine congrArg v (funext fun b => Fin.ext (match b with
    | ⟨0, _⟩ => h1.symm
    | ⟨1, _⟩ => h2.symm))

theorem lay4_of (v : FVec Ideal S512x768 .f32) (y : S4x128x768.Idx) (j : S6x512x128.Idx) (h1 : 4 * (y 1).val + (y 0).val = (j 1).val)
    (h2 : (y 2).val = 128 * (j 0).val + (j 2).val) : lanes v j = lay4 v y := by
  refine congrArg v (funext fun b => Fin.ext (match b with
    | ⟨0, _⟩ => h1.symm
    | ⟨1, _⟩ => h2.symm))

/-- A piece of the first layout: a run of columns read back from the scratch and cast. -/
theorem lay1_piece (v : FVec Ideal S512x768 .f32) (y : S1x512x768.Idx) (c : ℕ) (inb) (x : S1x512x128.Idx) (s1 b s2)
    (h1 : (y 1).val = (x 1).val) (h2 : (y 2).val = 128 * c + (x 2).val) :
    shapeCast S1x512x128 (truncf (F := Ideal) .bf16 (shapeCast S512x128 (show FVec Ideal S1x512x128 .f32 from
      fun j => lanes v (({ off := ![c, 0, 0], size := ![1, 512, 128], stride := fun _ => 1, inb := inb } : LoadRect S6x512x128).idx j)) s1) b) s2 x =
      lay1 v y := by
  have h0 : (x 0).val < 1 := (x 0).isLt
  have e (u : FVec Ideal S1x512x128 .f32) : shapeCast S1x512x128 (truncf (F := Ideal) .bf16 (shapeCast S512x128 u s1) b) s2 x = u x := by
    pointwise
  rw [e]
  refine lay1_of v y _ ?_ ?_
  · change _ = 0 + 1 * (x 1).val
    omega
  · change _ = 128 * (c + 1 * (x 0).val) + (0 + 1 * (x 2).val)
    omega

/-- A piece of the second layout: every fourth row of a run of columns, read back from the scratch and cast. -/
theorem lay4_piece (v : FVec Ideal S512x768 .f32) (y : S4x128x768.Idx) (c r : ℕ) (inb) (x : S1x128x128.Idx) (s1 b s2)
    (hr : (y 0).val = r) (h1 : (y 1).val = (x 1).val) (h2 : (y 2).val = 128 * c + (x 2).val) :
    shapeCast S1x128x128 (truncf (F := Ideal) .bf16 (shapeCast S128x128 (show FVec Ideal S1x128x128 .f32 from
      fun j => lanes v (({ off := ![c, r, 0], size := ![1, 128, 128], stride := ![1, 4, 1], inb := inb } : LoadRect S6x512x128).idx j)) s1) b) s2 x =
      lay4 v y := by
  have h0 : (x 0).val < 1 := (x 0).isLt
  have e (u : FVec Ideal S1x128x128 .f32) : shapeCast S1x128x128 (truncf (F := Ideal) .bf16 (shapeCast S128x128 u s1) b) s2 x = u x := by
    pointwise
  rw [e]
  refine lay4_of v y _ ?_ ?_
  · change _ = r + 4 * (x 1).val
    omega
  · change _ = 128 * (c + 1 * (x 0).val) + (0 + 1 * (x 2).val)
    omega

/-- The value that position `(r, q, n)` of the third layout holds: the rows of residue `r` modulo 16 follow one another. -/
def lay16 (v : FVec Ideal S512x768 .f32) : FVec Ideal S16x32x768 .bf16 :=
  fun y => v (ix2 ⟨16 * (y 1).val + (y 0).val, by have h : (y 0).val < 16 := (y 0).isLt; have h : (y 1).val < 32 := (y 1).isLt; omega⟩ (y 2))

theorem lay16_of (v : FVec Ideal S512x768 .f32) (y : S16x32x768.Idx) (j : S6x512x128.Idx) (h1 : 16 * (y 1).val + (y 0).val = (j 1).val)
    (h2 : (y 2).val = 128 * (j 0).val + (j 2).val) : lanes v j = lay16 v y := by
  refine congrArg v (funext fun b => Fin.ext (match b with
    | ⟨0, _⟩ => h1.symm
    | ⟨1, _⟩ => h2.symm))

/-- The second scratch: in each run of columns the rows of each residue modulo 4 follow one another. -/
def steps (v : FVec Ideal S512x768 .f32) : FVec Ideal S6x512x128 .f32 :=
  fun y => lanes v (ix3 (y 0) ⟨(y 1).val / 128 + 4 * ((y 1).val % 128), by have h : (y 1).val < 512 := (y 1).isLt; omega⟩ (y 2))

/-- Pieces that hold one array wherever they are read hold that array. -/
theorem canon_of {s : Shape} {e : EltTy} (G : s.Idx → Elt Ideal e) (L : List (View.Piece (Elt Ideal) s e)) (h : ∀ y, View.canon L y = G y) :
    View.canon L = G := funext h

/-- A piece of the second scratch: every fourth row of a run of columns. -/
theorem steps_piece (v : FVec Ideal S512x768 .f32) (y : S6x512x128.Idx) (c r : ℕ) (inb) (x : S1x128x128.Idx) (s1 s2)
    (h0 : (y 0).val = c + (x 0).val) (h1 : (y 1).val = 128 * r + (x 1).val) (h2 : (y 2).val = (x 2).val) :
    shapeCast S1x128x128 (shapeCast S128x128 (show FVec Ideal S1x128x128 .f32 from
      fun j => lanes v (({ off := ![c, r, 0], size := ![1, 128, 128], stride := ![1, 4, 1], inb := inb } : LoadRect S6x512x128).idx j)) s1) s2 x =
      steps v y := by
  have hx : (x 1).val < 128 := (x 1).isLt
  have e (u : FVec Ideal S1x128x128 .f32) : shapeCast S1x128x128 (shapeCast S128x128 u s1) s2 x = u x := by
    pointwise
  rw [e]
  unfold steps
  refine congrArg (lanes v) (funext fun b => Fin.ext (match b with
    | ⟨0, _⟩ => ?_
    | ⟨1, _⟩ => ?_
    | ⟨2, _⟩ => ?_))
  · change c + 1 * (x 0).val = (y 0).val
    omega
  · change r + 4 * (x 1).val = (y 1).val / 128 + 4 * ((y 1).val % 128)
    omega
  · change 0 + 1 * (x 2).val = (y 2).val
    omega

/-- A piece of the third layout: every fourth row of the second scratch, read back and cast. -/
theorem lay16_piece (v : FVec Ideal S512x768 .f32) (y : S16x32x768.Idx) (c o : ℕ) (inb) (x : S1x32x128.Idx) (s1 b s2)
    (h1 : 16 * (y 1).val + (y 0).val = (o + 4 * (x 1).val) / 128 + 4 * ((o + 4 * (x 1).val) % 128))
    (h2 : (y 2).val = 128 * c + (x 2).val) :
    shapeCast S1x32x128 (truncf (F := Ideal) .bf16 (shapeCast S32x128 (show FVec Ideal S1x32x128 .f32 from
      fun j => steps v (({ off := ![c, o, 0], size := ![1, 32, 128], stride := ![1, 4, 1], inb := inb } : LoadRect S6x512x128).idx j)) s1) b) s2 x =
      lay16 v y := by
  have h0 : (x 0).val < 1 := (x 0).isLt
  have e (u : FVec Ideal S1x32x128 .f32) : shapeCast S1x32x128 (truncf (F := Ideal) .bf16 (shapeCast S32x128 u s1) b) s2 x = u x := by
    pointwise
  rw [e]
  refine lay16_of v y _ ?_ ?_
  · exact h1
  · change _ = 128 * (c + 1 * (x 0).val) + (0 + 1 * (x 2).val)
    omega

set_option maxHeartbeats 8000000 in
/-- The blocks of the queries, keys and values at a grid point. -/
theorem outs_qkv (m : (ℓ : Loc nD τ sig) → Buf (Elt Ideal) ℓ) (c : Dev nD) (t : Fin cfg0.N) :
    (∀ y, (outsAt0 (F := Ideal) m c t.val t.isLt).2.2.1 y = lay1 (k0_pay6 (F := Ideal) (iblk m c 0 t) (iblk m c 1 t) (wqkv (iblk m c 2 t))) y) ∧
    (∀ y, (outsAt0 (F := Ideal) m c t.val t.isLt).2.2.2.1 y = lay4 (k0_pay6 (F := Ideal) (iblk m c 0 t) (iblk m c 1 t) (wqkv (iblk m c 2 t))) y) := by
  have hA := outsAt0_A m c t
  have hB := outsAt0_B m c t
  unfold wqkv
  obtain ⟨x0, e0⟩ : ∃ x : FVec Ideal S512x1024 .f32, x = iblk m c 0 t := ⟨_, rfl⟩
  obtain ⟨x1, e1⟩ : ∃ x : FVec Ideal S1x1024 .f32, x = iblk m c 1 t := ⟨_, rfl⟩
  obtain ⟨x2, e2⟩ : ∃ x : FVec Ideal S3328x1024 .bf16, x = iblk m c 2 t := ⟨_, rfl⟩
  rw [← e0, ← e1, ← e2] at hA hB ⊢
  clear e0 e1 e2
  by_cases h0 : t.val % 16 = 0
  · refine ⟨fun y => ?_, fun y => ?_⟩
    · rw [hA h0]
      frame_out
      simp only [View.readCov_eq_canon', scratch_lit]
      clear hA hB
      canon_tiles x h
      all_goals
        refine lay1_piece _ y _ _ x _ _ _ ?_ ?_ <;> omega
    · rw [hA h0]
      frame_out
      simp only [View.readCov_eq_canon', scratch_lit]
      clear hA hB
      canon_tiles x h
      all_goals
        refine lay4_piece _ y _ _ _ x _ _ _ ?_ ?_ ?_ <;> omega
  · refine ⟨fun y => ?_, fun y => ?_⟩
    · rw [hB h0]
      frame_out
      simp only [View.readCov_eq_canon', scratch_lit]
      clear hA hB
      canon_tiles x h
      all_goals
        refine lay1_piece _ y _ _ x _ _ _ ?_ ?_ <;> omega
    · rw [hB h0]
      frame_out
      simp only [View.readCov_eq_canon', scratch_lit]
      clear hA hB
      canon_tiles x h
      all_goals
        refine lay4_piece _ y _ _ _ x _ _ _ ?_ ?_ ?_ <;> omega

set_option maxHeartbeats 16000000 in
/-- The block of the third layout at a grid point. -/
theorem outs_qkv16 (m : (ℓ : Loc nD τ sig) → Buf (Elt Ideal) ℓ) (c : Dev nD) (t : Fin cfg0.N) (y : S16x32x768.Idx) :
    (outsAt0 (F := Ideal) m c t.val t.isLt).2.2.2.2.1 y = lay16 (k0_pay6 (F := Ideal) (iblk m c 0 t) (iblk m c 1 t) (wqkv (iblk m c 2 t))) y := by
  have hA := outsAt0_A m c t
  have hB := outsAt0_B m c t
  unfold wqkv
  obtain ⟨x0, e0⟩ : ∃ x : FVec Ideal S512x1024 .f32, x = iblk m c 0 t := ⟨_, rfl⟩
  obtain ⟨x1, e1⟩ : ∃ x : FVec Ideal S1x1024 .f32, x = iblk m c 1 t := ⟨_, rfl⟩
  obtain ⟨x2, e2⟩ : ∃ x : FVec Ideal S3328x1024 .bf16, x = iblk m c 2 t := ⟨_, rfl⟩
  rw [← e0, ← e1, ← e2] at hA hB ⊢
  clear e0 e1 e2
  by_cases h0 : t.val % 16 = 0
  · rw [hA h0]
    frame_out
    simp only [View.readCov_eq_canon', scratch_lit]
    clear hA hB
    rw [canon_of (s := S6x512x128) (e := .f32) (steps (k0_pay6 (F := Ideal) x0 x1 (View.ld (Val := Elt Ideal) (e' := .bf16) x2
      (Rect.unit (s := S3328x1024) ![2304, 0] S768x1024.size inb_S3328x1024_S768x1024_2304_0)))) _ ?_]
    · canon_tiles x h
      all_goals
        refine lay16_piece _ y _ _ _ x _ _ _ ?_ ?_ <;> omega
    · intro y
      canon_tiles x h
      all_goals
        refine steps_piece _ y _ _ _ x _ _ ?_ ?_ ?_ <;> omega
  · rw [hB h0]
    frame_out
    simp only [View.readCov_eq_canon', scratch_lit]
    clear hA hB
    rw [canon_of (s := S6x512x128) (e := .f32) (steps (k0_pay6 (F := Ideal) x0 x1 (View.ld (Val := Elt Ideal) (e' := .bf16) x2
      (Rect.unit (s := S3328x1024) ![2304, 0] S768x1024.size inb_S3328x1024_S768x1024_2304_0)))) _ ?_]
    · canon_tiles x h
      all_goals
        refine lay16_piece _ y _ _ _ x _ _ _ ?_ ?_ <;> omega
    · intro y
      canon_tiles x h
      all_goals
        refine steps_piece _ y _ _ _ x _ _ ?_ ?_ ?_ <;> omega

variable (m : (ℓ : Loc nD τ sig) → Buf (Elt Ideal) ℓ)

theorem idx_qkv : ∀ t : Fin cfg0.N, win0_12.index t = ![0, t.val, 0] ∧ win0_13.index t = ![0, t.val, 0] ∧
    win0_14.index t = ![0, t.val, 0] :=
  (by decide +kernel : ∀ t : Fin grid0.N, _)

/-- An entry of a block's queries, keys and values, of the program's arguments. -/
theorem qkv_row (c : Dev nD) (t : Fin cfg0.N) (p : Fin 512) (n : Fin 768) :
    k0_pay6 (F := Ideal) (iblk m c 0 t) (iblk m c 1 t) (wqkv (iblk m c 2 t)) (ix2 p n) = projOf m c (row t p) ⟨2304 + n.val, by omega⟩ := by
  refine (qkv_at _ _ _ p n).trans (Finset.sum_congr rfl fun k _ => ?_)
  rw [root_row, wqkv_at]
  exact congrArg₂ (· * ·) (congrArg₂ (· * ·) (congrArg (· * _) (x_at m c t p k)) (g_at m c t k)) (w_at m c t _ k)

/-- The first layout at all the positions. -/
def qkv1All (c : Dev nD) : FVec Ideal S1x8192x768 .bf16 :=
  fun i => projOf m c (i 1) ⟨2304 + (i 2).val, by have h : (i 2).val < 768 := (i 2).isLt; omega⟩

/-- The second layout at all the positions. -/
def qkv4All (c : Dev nD) : FVec Ideal S4x2048x768 .bf16 :=
  fun i => projOf m c ⟨4 * (i 1).val + (i 0).val, by have h : (i 0).val < 4 := (i 0).isLt; have h : (i 1).val < 2048 := (i 1).isLt; omega⟩
    ⟨2304 + (i 2).val, by have h : (i 2).val < 768 := (i 2).isLt; omega⟩

theorem qkv1_blk (c : Dev nD) (t : Fin cfg0.N) (y : S1x512x768.Idx) :
    (outsAt0 (F := Ideal) m c t.val t.isLt).2.2.1 y = qkv1All m c (ix3 0 (row t (y 1)) (y 2)) :=
  ((outs_qkv m c t).1 y).trans (qkv_row m c t (y 1) (y 2))

theorem qkv4_blk (c : Dev nD) (t : Fin cfg0.N) (y : S4x128x768.Idx) :
    (outsAt0 (F := Ideal) m c t.val t.isLt).2.2.2.1 y = qkv4All m c (ix3 (y 0) ⟨128 * t.val + (y 1).val, by
      have h : (y 1).val < 128 := (y 1).isLt; have := lt16 t; omega⟩ (y 2)) := by
  refine ((outs_qkv m c t).2 y).trans ((qkv_row m c t _ (y 2)).trans ?_)
  refine congrArg (fun s => projOf m c s _) (Fin.ext ?_)
  show 512 * t.val + (4 * (y 1).val + (y 0).val) = 4 * (128 * t.val + (y 1).val) + (y 0).val
  omega

/-- The array of the first layout after the run. -/
theorem final12 (c : Dev nD) : (dats (F := Ideal) m 0 c).arrAt 12 cfg0.N = qkv1All m c := by
  refine (dats (F := Ideal) m 0 c).arrAt_eq_of_covers 12 _ (by decide +kernel) fun t hf y => ?_
  blk_simp
  rw [after0_12]
  obtain_idx i : S1x512x768 := [(y 0 : ℕ), (y 1 : ℕ), (y 2 : ℕ)] with hi
  have hy : (show S1x512x768.Idx from y) = ix3 (i 0) (i 1) (i 2) := funext fun b => Fin.ext (match b with
    | ⟨0, _⟩ => hi0.symm
    | ⟨1, _⟩ => hi1.symm
    | ⟨2, _⟩ => hi2.symm)
  refine (congrArg (outsAt0 (F := Ideal) m c t.val t.isLt).2.2.1 hy).trans ((qkv1_blk m c t _).trans ?_)
  show qkv1All m c (ix3 0 (row t (i 1)) (i 2)) = qkv1All m c ((win0_12.blk t).view.emb y)
  generalize qkv1All m c = f
  blk_point [row, idx_qkv t]

/-- The array of the second layout after the run. -/
theorem final13 (c : Dev nD) : (dats (F := Ideal) m 0 c).arrAt 13 cfg0.N = qkv4All m c := by
  refine (dats (F := Ideal) m 0 c).arrAt_eq_of_covers 13 _ (by decide +kernel) fun t hf y => ?_
  blk_simp
  rw [after0_13]
  obtain_idx i : S4x128x768 := [(y 0 : ℕ), (y 1 : ℕ), (y 2 : ℕ)] with hi
  have hy : (show S4x128x768.Idx from y) = ix3 (i 0) (i 1) (i 2) := funext fun b => Fin.ext (match b with
    | ⟨0, _⟩ => hi0.symm
    | ⟨1, _⟩ => hi1.symm
    | ⟨2, _⟩ => hi2.symm)
  refine (congrArg (outsAt0 (F := Ideal) m c t.val t.isLt).2.2.2.1 hy).trans ((qkv4_blk m c t _).trans ?_)
  show qkv4All m c (ix3 (i 0) ⟨128 * t.val + (i 1).val, by
      have h : (i 1).val < 128 := (i 1).isLt; have := lt16 t; omega⟩ (i 2)) = qkv4All m c ((win0_13.blk t).view.emb y)
  generalize qkv4All m c = f
  blk_point [idx_qkv t]

/-- The array of the first layout is the reference's. -/
theorem qkv1_final (c : Dev nD) : (dats (F := Ideal) m 0 c).arrAt 12 cfg0.N = val_main_v19 (F := Ideal)
    (m ((c : Thread nD τ).loc main_arg0)) (m ((c : Thread nD τ).loc main_arg1)) (m ((c : Thread nD τ).loc main_arg2)) := by
  rw [final12]
  exact funext fun i => (qkv1_eq _ _ _ i).symm

/-- The array of the second layout is the reference's. -/
theorem qkv4_final (c : Dev nD) : (dats (F := Ideal) m 0 c).arrAt 13 cfg0.N = val_main_v23 (F := Ideal)
    (m ((c : Thread nD τ).loc main_arg0)) (m ((c : Thread nD τ).loc main_arg1)) (m ((c : Thread nD τ).loc main_arg2)) := by
  rw [final13]
  exact funext fun i => (qkv4_eq _ _ _ i).symm

/-- The third layout at all the positions. -/
def qkv16All (c : Dev nD) : FVec Ideal S16x512x768 .bf16 :=
  fun i => projOf m c ⟨16 * (i 1).val + (i 0).val, by have h : (i 0).val < 16 := (i 0).isLt; have h : (i 1).val < 512 := (i 1).isLt; omega⟩
    ⟨2304 + (i 2).val, by have h : (i 2).val < 768 := (i 2).isLt; omega⟩

theorem qkv16_blk (c : Dev nD) (t : Fin cfg0.N) (y : S16x32x768.Idx) :
    (outsAt0 (F := Ideal) m c t.val t.isLt).2.2.2.2.1 y = qkv16All m c (ix3 (y 0) ⟨32 * t.val + (y 1).val, by
      have h : (y 1).val < 32 := (y 1).isLt; have := lt16 t; omega⟩ (y 2)) := by
  refine (outs_qkv16 m c t y).trans ((qkv_row m c t _ (y 2)).trans ?_)
  refine congrArg (fun s => projOf m c s _) (Fin.ext ?_)
  show 512 * t.val + (16 * (y 1).val + (y 0).val) = 16 * (32 * t.val + (y 1).val) + (y 0).val
  omega

/-- The array of the third layout after the run. -/
theorem final14 (c : Dev nD) : (dats (F := Ideal) m 0 c).arrAt 14 cfg0.N = qkv16All m c := by
  refine (dats (F := Ideal) m 0 c).arrAt_eq_of_covers 14 _ (by decide +kernel) fun t hf y => ?_
  blk_simp
  rw [after0_14]
  obtain_idx i : S16x32x768 := [(y 0 : ℕ), (y 1 : ℕ), (y 2 : ℕ)] with hi
  have hy : (show S16x32x768.Idx from y) = ix3 (i 0) (i 1) (i 2) := funext fun b => Fin.ext (match b with
    | ⟨0, _⟩ => hi0.symm
    | ⟨1, _⟩ => hi1.symm
    | ⟨2, _⟩ => hi2.symm)
  refine (congrArg (outsAt0 (F := Ideal) m c t.val t.isLt).2.2.2.2.1 hy).trans ((qkv16_blk m c t _).trans ?_)
  show qkv16All m c (ix3 (i 0) ⟨32 * t.val + (i 1).val, by
      have h : (i 1).val < 32 := (i 1).isLt; have := lt16 t; omega⟩ (i 2)) = qkv16All m c ((win0_14.blk t).view.emb y)
  generalize qkv16All m c = f
  blk_point [idx_qkv t]

/-- The array of the third layout is the reference's. -/
theorem qkv16_final (c : Dev nD) : (dats (F := Ideal) m 0 c).arrAt 14 cfg0.N = val_main_v27 (F := Ideal)
    (m ((c : Thread nD τ).loc main_arg0)) (m ((c : Thread nD τ).loc main_arg1)) (m ((c : Thread nD τ).loc main_arg2)) := by
  rw [final14]
  exact funext fun i => (qkv16_eq _ _ _ i).symm

end Cert.Kernel4Ideal.Mix

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Wgrad
public import proofs.«01_k».proof.Proof.Inproj
public import proofs.«01_k».proof.Proof.MixQkv
public import Idealize.ShloMosaic.Adequacy
public import Idealize.ShloMosaic.Init

@[expose] public section

noncomputable section

namespace Cert.Proof

open Idealize.ShloMosaic Idealize.SL.Sem

theorem frame_K : Cert.quiescent_Kernel := by
  intro m g _
  exact Cert.Kernel.Gen.frame m g

theorem frame_KI : Cert.quiescent_KernelIdeal := by
  intro m g _
  exact Cert.KernelIdeal.Gen.frame m g

theorem frame_K2 : Cert.quiescent_Kernel2 := by
  intro m g _
  exact Cert.Kernel2.Gen.frame m g

theorem frame_KI2 : Cert.quiescent_Kernel2Ideal := by
  intro m g _
  exact Cert.Kernel2Ideal.Gen.frame m g

theorem preserves_K : Cert.preserves_Kernel_KernelIdeal :=
  IdealRules.named_const.statement Cert.KernelIdeal.κ "mask" .f32 0xF149F2CA#32 ⊥ rfl

/-- The weight gradient: the kernel's result array and the reference's end equal. -/
theorem algebraic_2 : Cert.algebraic_Kernel2Ideal_Reference2Ideal := by
  intro m g m' g' _ hagree
  refine ⟨fun c => Cert.Kernel2Ideal.Value.G2 m c, ?_, ?_⟩
  · exact Cert.Kernel2Ideal.Value.run m g
  · refine (θ_run _ _ _).mono ?_ (Cert.Reference2Ideal.Value.run (F := Ideal) m' g')
    intro r h c
    obtain ⟨h0, h1, h2, h3, h4⟩ := h c
    obtain ⟨e0, e1, e2, e3⟩ := hagree c
    refine ⟨?_, h1, h2, h3, h4⟩
    have hk := Cert.Kernel2Ideal.Wgrad.kernel_eq m c
    refine h0.trans ((Cert.Reference2Ideal.Read.val_main_v18_eq _ _ _).trans (Eq.trans ?_ hk.symm))
    exact congr (congr (congrArg (Cert.Reference2Ideal.Read.val_main_v18 (F := Ideal)) e0) e1) e3

/-- The reference of the weight gradient runs and leaves its arguments alone. -/
theorem frame_R2 : Cert.quiescent_Reference2Ideal := by
  intro m g _
  exact (θ_run _ _ _).mono (fun r h => ⟨fun c => (h c).2, sem_eq_zero_of_no_sems (by decide) r.2⟩)
    (Cert.Reference2Ideal.Value.run (F := Ideal) m g)

theorem frame_K3 : Cert.quiescent_Kernel3 := by
  intro m g _
  exact Cert.Kernel3.Gen.frame m g

theorem frame_KI3 : Cert.quiescent_Kernel3Ideal := by
  intro m g _
  exact Cert.Kernel3Ideal.Gen.frame m g

/-- The reference of the input's gradient runs and leaves its arguments alone. -/
theorem frame_R3 : Cert.quiescent_Reference3Ideal := by
  intro m g _
  exact (θ_run _ _ _).mono (fun r h => ⟨fun c => (h c).2.2, sem_eq_zero_of_no_sems (by decide) r.2⟩)
    (Cert.Reference3Ideal.Value.run (F := Ideal) m g)

set_option maxHeartbeats 4000000 in
/-- The gradients of the layer's input and of the norm's weight: the kernel's result arrays and the reference's end equal. -/
theorem algebraic_3 : Cert.algebraic_Kernel3Ideal_Reference3Ideal := by
  intro m g m' g' _ hagree
  refine ⟨fun c => (Cert.Kernel3Ideal.Gen.dats (F := Ideal) m 0 c).arrAt 15 Cert.Kernel3Ideal.cfg0.N,
    fun c => (Cert.Kernel3Ideal.Gen.dats (F := Ideal) m 0 c).arrAt 18 Cert.Kernel3Ideal.cfg0.N, ?_, ?_⟩
  · refine (θ_run _ _ _).mono ?_ (Cert.Kernel3Ideal.Value.run_blocks (F := Ideal) m g)
    intro r h c
    obtain ⟨hx, _, _, hg, ha⟩ := h c
    exact ⟨hx, hg, ha⟩
  · refine (θ_run _ _ _).mono ?_ (Cert.Reference3Ideal.Value.run (F := Ideal) m' g')
    intro r h c
    obtain ⟨hx, hg, ha⟩ := h c
    obtain ⟨e0, e1, e2, e3, e4, e5, e6, e7, e8, e9, e10, e11, e12, e13, e14⟩ := hagree c
    refine ⟨?_, ?_, ha⟩
    · refine hx.trans ((Cert.Reference3Ideal.Read.val_main_v50_eq _ _).trans (Eq.trans ?_ (Cert.Kernel3Ideal.Inproj.dx_final m c).symm))
      exact congr (congr (congr (congr (congr (congr (congr (congr (congr (congr (congr (congr (congr (congr
        (congrArg (Cert.Reference3Ideal.Read.val_main_v50 (F := Ideal)) e0) e1) e2) e3) e4) e5) e6) e7) e8) e9) e10) e11) e12) e13) e14
    · refine hg.trans ((Cert.Reference3Ideal.Read.val_main_v51_eq _ _ _ _ _ _ _ _ _ _ _ _ _).trans
        (Eq.trans ?_ (Cert.Kernel3Ideal.Inproj.dg_final m c).symm))
      exact congr (congr (congr (congr (congr (congr (congr (congr (congr (congr (congr (congr
        (congrArg (Cert.Reference3Ideal.Read.val_main_v51 (F := Ideal)) e0) e2) e4) e5) e6) e7) e8) e9) e10) e11) e12) e13) e14

theorem frame_K4 : Cert.quiescent_Kernel4 := by
  intro m g _
  exact Cert.Kernel4.Gen.frame m g

theorem frame_KI4 : Cert.quiescent_Kernel4Ideal := by
  intro m g _
  exact Cert.Kernel4Ideal.Gen.frame m g

/-- The reference of the input projection runs and leaves its arguments alone. -/
theorem frame_R4 : Cert.quiescent_Reference4Ideal := by
  intro m g _
  exact (θ_run _ _ _).mono (fun r h => ⟨fun c => (h c).2.2.2.2.2, sem_eq_zero_of_no_sems (by decide) r.2⟩)
    (Cert.Reference4Ideal.Value.run (F := Ideal) m g)

set_option maxHeartbeats 4000000 in
/-- The mixers' activations, the gate, and the queries, keys and values in their three layouts: the kernel's result arrays
    and the reference's end equal. -/
theorem algebraic_4 : Cert.algebraic_Kernel4Ideal_Reference4Ideal := by
  intro m g m' g' _ hagree
  refine ⟨fun c => (Cert.Kernel4Ideal.Gen.dats (F := Ideal) m 0 c).arrAt 10 Cert.Kernel4Ideal.cfg0.N,
    fun c => (Cert.Kernel4Ideal.Gen.dats (F := Ideal) m 0 c).arrAt 11 Cert.Kernel4Ideal.cfg0.N,
    fun c => (Cert.Kernel4Ideal.Gen.dats (F := Ideal) m 0 c).arrAt 12 Cert.Kernel4Ideal.cfg0.N,
    fun c => (Cert.Kernel4Ideal.Gen.dats (F := Ideal) m 0 c).arrAt 13 Cert.Kernel4Ideal.cfg0.N,
    fun c => (Cert.Kernel4Ideal.Gen.dats (F := Ideal) m 0 c).arrAt 14 Cert.Kernel4Ideal.cfg0.N, ?_, ?_⟩
  · refine (θ_run _ _ _).mono ?_ (Cert.Kernel4Ideal.Value.run_blocks (F := Ideal) m g)
    intro r h c
    obtain ⟨h1, h2, h3, h4, h5, _, _, _, _, ha⟩ := h c
    exact ⟨h1, h2, h3, h4, h5, ha⟩
  · refine (θ_run _ _ _).mono ?_ (Cert.Reference4Ideal.Value.run (F := Ideal) m' g')
    intro r h c
    obtain ⟨h1, h2, h3, h4, h5, ha⟩ := h c
    obtain ⟨e0, e1, e2, _, _, _, _, _, _, _, _, _, _, _⟩ := hagree c
    refine ⟨?_, ?_, ?_, ?_, ?_, ha⟩
    · refine h1.trans ((Cert.Reference4Ideal.Read.val_main_v14_eq _ _ _).trans (Eq.trans ?_ (Cert.Kernel4Ideal.Mix.z_final m c).symm))
      exact congr (congr (congrArg (Cert.Reference4Ideal.Read.val_main_v14 (F := Ideal)) e0) e1) e2
    · refine h2.trans ((Cert.Reference4Ideal.Read.val_main_v15_eq _ _ _).trans (Eq.trans ?_ (Cert.Kernel4Ideal.Mix.gate_final m c).symm))
      exact congr (congr (congrArg (Cert.Reference4Ideal.Read.val_main_v15 (F := Ideal)) e0) e1) e2
    · refine h3.trans ((Cert.Reference4Ideal.Read.val_main_v19_eq _ _ _).trans (Eq.trans ?_ (Cert.Kernel4Ideal.Mix.qkv1_final m c).symm))
      exact congr (congr (congrArg (Cert.Reference4Ideal.Read.val_main_v19 (F := Ideal)) e0) e1) e2
    · refine h4.trans ((Cert.Reference4Ideal.Read.val_main_v23_eq _ _ _).trans (Eq.trans ?_ (Cert.Kernel4Ideal.Mix.qkv4_final m c).symm))
      exact congr (congr (congrArg (Cert.Reference4Ideal.Read.val_main_v23 (F := Ideal)) e0) e1) e2
    · refine h5.trans ((Cert.Reference4Ideal.Read.val_main_v27_eq _ _ _).trans (Eq.trans ?_ (Cert.Kernel4Ideal.Mix.qkv16_final m c).symm))
      exact congr (congr (congrArg (Cert.Reference4Ideal.Read.val_main_v27 (F := Ideal)) e0) e1) e2

theorem claim : Cert.Claim :=
  ⟨Cert.Kernel.Gen.facts, Cert.KernelIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    frame_K, frame_KI, frame_K2, frame_KI2, frame_R2, frame_K3, frame_KI3, frame_R3, frame_K4, frame_KI4, frame_R4,
    preserves_K, trivial, algebraic_2, trivial, algebraic_3, trivial, algebraic_4⟩

end Cert.Proof

end
